-- ==== Defs.lean ====
def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_Mlp1RefIdeal (m : (ℓ : Loc Cert.Mlp1RefIdeal.nD Cert.Mlp1RefIdeal.τ Cert.Mlp1RefIdeal.sig) → Buf (Elt Ideal) ℓ) : Prop :=
  True

def Pre_Mlp0 (m : (ℓ : Loc Cert.Mlp0.nD Cert.Mlp0.τ Cert.Mlp0.sig) → Buf (Elt Bits) ℓ) : Prop :=
  True

def Pre_Mlp0Ideal (m : (ℓ : Loc Cert.Mlp0Ideal.nD Cert.Mlp0Ideal.τ Cert.Mlp0Ideal.sig) → Buf (Elt Ideal) ℓ) : Prop :=
  True

def Pre_Mlp0RefIdeal (m : (ℓ : Loc Cert.Mlp0RefIdeal.nD Cert.Mlp0RefIdeal.τ Cert.Mlp0RefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_RefIdeal (m : (ℓ : Loc Cert.RefIdeal.nD Cert.RefIdeal.τ Cert.RefIdeal.sig) → Buf (Elt Ideal) ℓ) : Prop :=
  True

def Pre_RefIdeal_finite_scores [hPre_finite_scores : Cert.Pre_finite_scores.Facts] (m : (ℓ : Loc Cert.RefIdeal.nD Cert.RefIdeal.τ Cert.RefIdeal.sig) → Buf (Elt Ideal) ℓ) : Prop :=
  ∀ c : Dev Cert.RefIdeal.nD,
    (Cert.Pre_finite_scores.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10))) = (fun _ => 1#1)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1)
      ∧ r.2.mem ((c.tc : Thread Cert.Mlp1.nD Cert.Mlp1.τ).loc Cert.Mlp1.main_arg2) = m ((c.tc : Thread Cert.Mlp1.nD Cert.Mlp1.τ).loc Cert.Mlp1.main_arg2)
      ∧ r.2.mem ((c.tc : Thread Cert.Mlp1.nD Cert.Mlp1.τ).loc Cert.Mlp1.main_arg3) = m ((c.tc : Thread Cert.Mlp1.nD Cert.Mlp1.τ).loc Cert.Mlp1.main_arg3)
      ∧ r.2.mem ((c.tc : Thread Cert.Mlp1.nD Cert.Mlp1.τ).loc Cert.Mlp1.main_arg4) = m ((c.tc : Thread Cert.Mlp1.nD Cert.Mlp1.τ).loc Cert.Mlp1.main_arg4)
      ∧ r.2.mem ((c.tc : Thread Cert.Mlp1.nD Cert.Mlp1.τ).loc Cert.Mlp1.main_arg5) = m ((c.tc : Thread Cert.Mlp1.nD Cert.Mlp1.τ).loc Cert.Mlp1.main_arg5)
      ∧ r.2.mem ((c.tc : Thread Cert.Mlp1.nD Cert.Mlp1.τ).loc Cert.Mlp1.main_arg6) = m ((c.tc : Thread Cert.Mlp1.nD Cert.Mlp1.τ).loc Cert.Mlp1.main_arg6))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
      ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
      ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
      ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4)
      ∧ r.2.mem ((c.tc : Thread Cert.Mlp1Ideal.nD Cert.Mlp1Ideal.τ).loc Cert.Mlp1Ideal.main_arg5) = m ((c.tc : Thread Cert.Mlp1Ideal.nD Cert.Mlp1Ideal.τ).loc Cert.Mlp1Ideal.main_arg5)
      ∧ r.2.mem ((c.tc : Thread Cert.Mlp1Ideal.nD Cert.Mlp1Ideal.τ).loc Cert.Mlp1Ideal.main_arg6) = m ((c.tc : Thread Cert.Mlp1Ideal.nD Cert.Mlp1Ideal.τ).loc Cert.Mlp1Ideal.main_arg6))
      ∧ r.2.sem = fun _ => 0)

def quiescent_Mlp1RefIdeal [hMlp1RefIdeal : Cert.Mlp1RefIdeal.Facts] : Prop :=
  ∀ (m : (ℓ : Loc Cert.Mlp1RefIdeal.nD Cert.Mlp1RefIdeal.τ Cert.Mlp1RefIdeal.sig) → Buf (Elt Ideal) ℓ) (g : Dev Cert.Mlp1RefIdeal.nD → PrngReg), Pre_Mlp1RefIdeal m →
    θ_run (Cert.Mlp1RefIdeal.defs (F := Ideal)) (onTc (τ := Cert.Mlp1RefIdeal.τ) (Cert.Mlp1RefIdeal.main (F := Ideal))) ⟨m, fun _ => 0, g⟩ (fun r => (∀ c : Dev Cert.Mlp1RefIdeal.nD,
      r.2.mem ((c.tc : Thread Cert.Mlp1RefIdeal.nD Cert.Mlp1RefIdeal.τ).loc Cert.Mlp1RefIdeal.main_arg0) = m ((c.tc : Thread Cert.Mlp1RefIdeal.nD Cert.Mlp1RefIdeal.τ).loc Cert.Mlp1RefIdeal.main_arg0)
      ∧ r.2.mem ((c.tc : Thread Cert.Mlp1RefIdeal.nD Cert.Mlp1RefIdeal.τ).loc Cert.Mlp1RefIdeal.main_arg1) = m ((c.tc : Thread Cert.Mlp1RefIdeal.nD Cert.Mlp1RefIdeal.τ).loc Cert.Mlp1RefIdeal.main_arg1)
      ∧ r.2.mem ((c.tc : Thread Cert.Mlp1RefIdeal.nD Cert.Mlp1RefIdeal.τ).loc Cert.Mlp1RefIdeal.main_arg2) = m ((c.tc : Thread Cert.Mlp1RefIdeal.nD Cert.Mlp1RefIdeal.τ).loc Cert.Mlp1RefIdeal.main_arg2)
      ∧ r.2.mem ((c.tc : Thread Cert.Mlp1RefIdeal.nD Cert.Mlp1RefIdeal.τ).loc Cert.Mlp1RefIdeal.main_arg3) = m ((c.tc : Thread Cert.Mlp1RefIdeal.nD Cert.Mlp1RefIdeal.τ).loc Cert.Mlp1RefIdeal.main_arg3)
      ∧ r.2.mem ((c.tc : Thread Cert.Mlp1RefIdeal.nD Cert.Mlp1RefIdeal.τ).loc Cert.Mlp1RefIdeal.main_arg4) = m ((c.tc : Thread Cert.Mlp1RefIdeal.nD Cert.Mlp1RefIdeal.τ).loc Cert.Mlp1RefIdeal.main_arg4)
      ∧ r.2.mem ((c.tc : Thread Cert.Mlp1RefIdeal.nD Cert.Mlp1RefIdeal.τ).loc Cert.Mlp1RefIdeal.main_arg5) = m ((c.tc : Thread Cert.Mlp1RefIdeal.nD Cert.Mlp1RefIdeal.τ).loc Cert.Mlp1RefIdeal.main_arg5)
      ∧ r.2.mem ((c.tc : Thread Cert.Mlp1RefIdeal.nD Cert.Mlp1RefIdeal.τ).loc Cert.Mlp1RefIdeal.main_arg6) = m ((c.tc : Thread Cert.Mlp1RefIdeal.nD Cert.Mlp1RefIdeal.τ).loc Cert.Mlp1RefIdeal.main_arg6))
      ∧ r.2.sem = fun _ => 0)

def quiescent_Mlp0 [hMlp0 : Cert.Mlp0.Facts] : Prop :=
  ∀ (m : (ℓ : Loc Cert.Mlp0.nD Cert.Mlp0.τ Cert.Mlp0.sig) → Buf (Elt Bits) ℓ) (g : Dev Cert.Mlp0.nD → PrngReg), Pre_Mlp0 m →
    θ_run (Cert.Mlp0.defs (F := Bits)) (onTc (τ := Cert.Mlp0.τ) (Cert.Mlp0.main (F := Bits))) ⟨m, fun _ => 0, g⟩ (fun r => (∀ c : Dev Cert.Mlp0.nD,
      r.2.mem ((c.tc : Thread Cert.Mlp0.nD Cert.Mlp0.τ).loc Cert.Mlp0.main_arg0) = m ((c.tc : Thread Cert.Mlp0.nD Cert.Mlp0.τ).loc Cert.Mlp0.main_arg0)
      ∧ r.2.mem ((c.tc : Thread Cert.Mlp0.nD Cert.Mlp0.τ).loc Cert.Mlp0.main_arg1) = m ((c.tc : Thread Cert.Mlp0.nD Cert.Mlp0.τ).loc Cert.Mlp0.main_arg1)
      ∧ r.2.mem ((c.tc : Thread Cert.Mlp0.nD Cert.Mlp0.τ).loc Cert.Mlp0.main_arg2) = m ((c.tc : Thread Cert.Mlp0.nD Cert.Mlp0.τ).loc Cert.Mlp0.main_arg2)
      ∧ r.2.mem ((c.tc : Thread Cert.Mlp0.nD Cert.Mlp0.τ).loc Cert.Mlp0.main_arg3) = m ((c.tc : Thread Cert.Mlp0.nD Cert.Mlp0.τ).loc Cert.Mlp0.main_arg3)
      ∧ r.2.mem ((c.tc : Thread Cert.Mlp0.nD Cert.Mlp0.τ).loc Cert.Mlp0.main_arg4) = m ((c.tc : Thread Cert.Mlp0.nD Cert.Mlp0.τ).loc Cert.Mlp0.main_arg4)
      ∧ r.2.mem ((c.tc : Thread Cert.Mlp0.nD Cert.Mlp0.τ).loc Cert.Mlp0.main_arg5) = m ((c.tc : Thread Cert.Mlp0.nD Cert.Mlp0.τ).loc Cert.Mlp0.main_arg5)
      ∧ r.2.mem ((c.tc : Thread Cert.Mlp0.nD Cert.Mlp0.τ).loc Cert.Mlp0.main_arg6) = m ((c.tc : Thread Cert.Mlp0.nD Cert.Mlp0.τ).loc Cert.Mlp0.main_arg6))
      ∧ r.2.sem = fun _ => 0)

def quiescent_Mlp0Ideal [hMlp0Ideal : Cert.Mlp0Ideal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg), Pre_Mlp0Ideal m →
    θ_run (Cert.Mlp0Ideal.defs (F := Ideal)) (onTc (τ := Cert.Mlp0Ideal.τ) (Cert.Mlp0Ideal.main (F := Ideal))) ⟨m, fun _ => 0, g⟩ (fun r => (∀ c : Dev Cert.Mlp0Ideal.nD,
      r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
      ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
      ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
      ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3)
      ∧ r.2.mem ((c.tc : Thread Cert.Mlp0Ideal.nD Cert.Mlp0Ideal.τ).loc Cert.Mlp0Ideal.main_arg4) = m ((c.tc : Thread Cert.Mlp0Ideal.nD Cert.Mlp0Ideal.τ).loc Cert.Mlp0Ideal.main_arg4)
      ∧ r.2.mem ((c.tc : Thread Cert.Mlp0Ideal.nD Cert.Mlp0Ideal.τ).loc Cert.Mlp0Ideal.main_arg5) = m ((c.tc : Thread Cert.Mlp0Ideal.nD Cert.Mlp0Ideal.τ).loc Cert.Mlp0Ideal.main_arg5)
      ∧ r.2.mem ((c.tc : Thread Cert.Mlp0Ideal.nD Cert.Mlp0Ideal.τ).loc Cert.Mlp0Ideal.main_arg6) = m ((c.tc : Thread Cert.Mlp0Ideal.nD Cert.Mlp0Ideal.τ).loc Cert.Mlp0Ideal.main_arg6))
      ∧ r.2.sem = fun _ => 0)

def quiescent_Mlp0RefIdeal [hMlp0RefIdeal : Cert.Mlp0RefIdeal.Facts] : Prop :=
  ∀ (m : (ℓ : Loc Cert.Mlp0RefIdeal.nD Cert.Mlp0RefIdeal.τ Cert.Mlp0RefIdeal.sig) → Buf (Elt Ideal) ℓ) (g : Dev Cert.Mlp0RefIdeal.nD → PrngReg), Pre_Mlp0RefIdeal m →
    θ_run (Cert.Mlp0RefIdeal.defs (F := Ideal)) (onTc (τ := Cert.Mlp0RefIdeal.τ) (Cert.Mlp0RefIdeal.main (F := Ideal))) ⟨m, fun _ => 0, g⟩ (fun r => (∀ c : Dev Cert.Mlp0RefIdeal.nD,
      r.2.mem ((c.tc : Thread Cert.Mlp0RefIdeal.nD Cert.Mlp0RefIdeal.τ).loc Cert.Mlp0RefIdeal.main_arg0) = m ((c.tc : Thread Cert.Mlp0RefIdeal.nD Cert.Mlp0RefIdeal.τ).loc Cert.Mlp0RefIdeal.main_arg0)
      ∧ r.2.mem ((c.tc : Thread Cert.Mlp0RefIdeal.nD Cert.Mlp0RefIdeal.τ).loc Cert.Mlp0RefIdeal.main_arg1) = m ((c.tc : Thread Cert.Mlp0RefIdeal.nD Cert.Mlp0RefIdeal.τ).loc Cert.Mlp0RefIdeal.main_arg1)
      ∧ r.2.mem ((c.tc : Thread Cert.Mlp0RefIdeal.nD Cert.Mlp0RefIdeal.τ).loc Cert.Mlp0RefIdeal.main_arg2) = m ((c.tc : Thread Cert.Mlp0RefIdeal.nD Cert.Mlp0RefIdeal.τ).loc Cert.Mlp0RefIdeal.main_arg2)
      ∧ r.2.mem ((c.tc : Thread Cert.Mlp0RefIdeal.nD Cert.Mlp0RefIdeal.τ).loc Cert.Mlp0RefIdeal.main_arg3) = m ((c.tc : Thread Cert.Mlp0RefIdeal.nD Cert.Mlp0RefIdeal.τ).loc Cert.Mlp0RefIdeal.main_arg3)
      ∧ r.2.mem ((c.tc : Thread Cert.Mlp0RefIdeal.nD Cert.Mlp0RefIdeal.τ).loc Cert.Mlp0RefIdeal.main_arg4) = m ((c.tc : Thread Cert.Mlp0RefIdeal.nD Cert.Mlp0RefIdeal.τ).loc Cert.Mlp0RefIdeal.main_arg4)
      ∧ r.2.mem ((c.tc : Thread Cert.Mlp0RefIdeal.nD Cert.Mlp0RefIdeal.τ).loc Cert.Mlp0RefIdeal.main_arg5) = m ((c.tc : Thread Cert.Mlp0RefIdeal.nD Cert.Mlp0RefIdeal.τ).loc Cert.Mlp0RefIdeal.main_arg5)
      ∧ r.2.mem ((c.tc : Thread Cert.Mlp0RefIdeal.nD Cert.Mlp0RefIdeal.τ).loc Cert.Mlp0RefIdeal.main_arg6) = m ((c.tc : Thread Cert.Mlp0RefIdeal.nD Cert.Mlp0RefIdeal.τ).loc Cert.Mlp0RefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9)
      ∧ r.2.mem ((c.tc : Thread Cert.RefIdeal.nD Cert.RefIdeal.τ).loc Cert.RefIdeal.main_arg10) = m ((c.tc : Thread Cert.RefIdeal.nD Cert.RefIdeal.τ).loc Cert.RefIdeal.main_arg10))
      ∧ r.2.sem = fun _ => 0)

def quiescent_RefIdeal_pre_finite_scores [hRefIdeal : Cert.RefIdeal.Facts] [hPre_finite_scores : Cert.Pre_finite_scores.Facts] : Prop :=
  ∀ (m : (ℓ : Loc Cert.RefIdeal.nD Cert.RefIdeal.τ Cert.RefIdeal.sig) → Buf (Elt Ideal) ℓ) (g : Dev Cert.RefIdeal.nD → PrngReg), Pre_RefIdeal_finite_scores m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9)
      ∧ r.2.mem ((c.tc : Thread Cert.RefIdeal.nD Cert.RefIdeal.τ).loc Cert.RefIdeal.main_arg10) = m ((c.tc : Thread Cert.RefIdeal.nD Cert.RefIdeal.τ).loc Cert.RefIdeal.main_arg10))
      ∧ r.2.sem = fun _ => 0)

def preserves_Mlp1_Mlp1Ideal : Prop :=
  True

def algebraic_Mlp1Ideal_Mlp1RefIdeal [hMlp1Ideal : Cert.Mlp1Ideal.Facts] [hMlp1RefIdeal : Cert.Mlp1RefIdeal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.Mlp1RefIdeal.nD Cert.Mlp1RefIdeal.τ Cert.Mlp1RefIdeal.sig) → Buf (Elt Ideal) ℓ) (g' : Dev Cert.Mlp1RefIdeal.nD → PrngReg), Pre_Mlp1Ideal m →
    (∀ c : Dev Cert.Mlp1Ideal.nD,
      m' ((c.tc : Thread Cert.Mlp1RefIdeal.nD Cert.Mlp1RefIdeal.τ).loc Cert.Mlp1RefIdeal.main_arg0) = m ((c.tc : Thread Cert.Mlp1Ideal.nD Cert.Mlp1Ideal.τ).loc Cert.Mlp1Ideal.main_arg0)
      ∧ m' ((c.tc : Thread Cert.Mlp1RefIdeal.nD Cert.Mlp1RefIdeal.τ).loc Cert.Mlp1RefIdeal.main_arg1) = m ((c.tc : Thread Cert.Mlp1Ideal.nD Cert.Mlp1Ideal.τ).loc Cert.Mlp1Ideal.main_arg1)
      ∧ m' ((c.tc : Thread Cert.Mlp1RefIdeal.nD Cert.Mlp1RefIdeal.τ).loc Cert.Mlp1RefIdeal.main_arg2) = m ((c.tc : Thread Cert.Mlp1Ideal.nD Cert.Mlp1Ideal.τ).loc Cert.Mlp1Ideal.main_arg2)
      ∧ m' ((c.tc : Thread Cert.Mlp1RefIdeal.nD Cert.Mlp1RefIdeal.τ).loc Cert.Mlp1RefIdeal.main_arg3) = m ((c.tc : Thread Cert.Mlp1Ideal.nD Cert.Mlp1Ideal.τ).loc Cert.Mlp1Ideal.main_arg3)
      ∧ m' ((c.tc : Thread Cert.Mlp1RefIdeal.nD Cert.Mlp1RefIdeal.τ).loc Cert.Mlp1RefIdeal.main_arg4) = m ((c.tc : Thread Cert.Mlp1Ideal.nD Cert.Mlp1Ideal.τ).loc Cert.Mlp1Ideal.main_arg4)
      ∧ m' ((c.tc : Thread Cert.Mlp1RefIdeal.nD Cert.Mlp1RefIdeal.τ).loc Cert.Mlp1RefIdeal.main_arg5) = m ((c.tc : Thread Cert.Mlp1Ideal.nD Cert.Mlp1Ideal.τ).loc Cert.Mlp1Ideal.main_arg5)
      ∧ m' ((c.tc : Thread Cert.Mlp1RefIdeal.nD Cert.Mlp1RefIdeal.τ).loc Cert.Mlp1RefIdeal.main_arg6) = m ((c.tc : Thread Cert.Mlp1Ideal.nD Cert.Mlp1Ideal.τ).loc Cert.Mlp1Ideal.main_arg6)) →
    ∃ (v0 : (c : Dev Cert.Mlp1Ideal.nD) → Buf (Elt Ideal) ((c.tc : Thread Cert.Mlp1Ideal.nD Cert.Mlp1Ideal.τ).loc Cert.Mlp1Ideal.main_v5)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v5) = v0 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
          ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
          ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
          ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4)
          ∧ r.2.mem ((c.tc : Thread Cert.Mlp1Ideal.nD Cert.Mlp1Ideal.τ).loc Cert.Mlp1Ideal.main_arg5) = m ((c.tc : Thread Cert.Mlp1Ideal.nD Cert.Mlp1Ideal.τ).loc Cert.Mlp1Ideal.main_arg5)
          ∧ r.2.mem ((c.tc : Thread Cert.Mlp1Ideal.nD Cert.Mlp1Ideal.τ).loc Cert.Mlp1Ideal.main_arg6) = m ((c.tc : Thread Cert.Mlp1Ideal.nD Cert.Mlp1Ideal.τ).loc Cert.Mlp1Ideal.main_arg6))
      ∧ θ_run (Cert.Mlp1RefIdeal.defs (F := Ideal)) (onTc (τ := Cert.Mlp1RefIdeal.τ) (Cert.Mlp1RefIdeal.main (F := Ideal))) ⟨m', fun _ => 0, g'⟩ (fun r => ∀ c : Dev Cert.Mlp1RefIdeal.nD,
          r.2.mem ((c.tc : Thread Cert.Mlp1RefIdeal.nD Cert.Mlp1RefIdeal.τ).loc Cert.Mlp1RefIdeal.main_v33) = v0 c
          ∧ r.2.mem ((c.tc : Thread Cert.Mlp1RefIdeal.nD Cert.Mlp1RefIdeal.τ).loc Cert.Mlp1RefIdeal.main_arg0) = m' ((c.tc : Thread Cert.Mlp1RefIdeal.nD Cert.Mlp1RefIdeal.τ).loc Cert.Mlp1RefIdeal.main_arg0)
          ∧ r.2.mem ((c.tc : Thread Cert.Mlp1RefIdeal.nD Cert.Mlp1RefIdeal.τ).loc Cert.Mlp1RefIdeal.main_arg1) = m' ((c.tc : Thread Cert.Mlp1RefIdeal.nD Cert.Mlp1RefIdeal.τ).loc Cert.Mlp1RefIdeal.main_arg1)
          ∧ r.2.mem ((c.tc : Thread Cert.Mlp1RefIdeal.nD Cert.Mlp1RefIdeal.τ).loc Cert.Mlp1RefIdeal.main_arg2) = m' ((c.tc : Thread Cert.Mlp1RefIdeal.nD Cert.Mlp1RefIdeal.τ).loc Cert.Mlp1RefIdeal.main_arg2)
          ∧ r.2.mem ((c.tc : Thread Cert.Mlp1RefIdeal.nD Cert.Mlp1RefIdeal.τ).loc Cert.Mlp1RefIdeal.main_arg3) = m' ((c.tc : Thread Cert.Mlp1RefIdeal.nD Cert.Mlp1RefIdeal.τ).loc Cert.Mlp1RefIdeal.main_arg3)
          ∧ r.2.mem ((c.tc : Thread Cert.Mlp1RefIdeal.nD Cert.Mlp1RefIdeal.τ).loc Cert.Mlp1RefIdeal.main_arg4) = m' ((c.tc : Thread Cert.Mlp1RefIdeal.nD Cert.Mlp1RefIdeal.τ).loc Cert.Mlp1RefIdeal.main_arg4)
          ∧ r.2.mem ((c.tc : Thread Cert.Mlp1RefIdeal.nD Cert.Mlp1RefIdeal.τ).loc Cert.Mlp1RefIdeal.main_arg5) = m' ((c.tc : Thread Cert.Mlp1RefIdeal.nD Cert.Mlp1RefIdeal.τ).loc Cert.Mlp1RefIdeal.main_arg5)
          ∧ r.2.mem ((c.tc : Thread Cert.Mlp1RefIdeal.nD Cert.Mlp1RefIdeal.τ).loc Cert.Mlp1RefIdeal.main_arg6) = m' ((c.tc : Thread Cert.Mlp1RefIdeal.nD Cert.Mlp1RefIdeal.τ).loc Cert.Mlp1RefIdeal.main_arg6))

def preserves_Mlp0_Mlp0Ideal : Prop :=
  True

def algebraic_Mlp0Ideal_Mlp0RefIdeal [hMlp0Ideal : Cert.Mlp0Ideal.Facts] [hMlp0RefIdeal : Cert.Mlp0RefIdeal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg)
    (m' : (ℓ : Loc Cert.Mlp0RefIdeal.nD Cert.Mlp0RefIdeal.τ Cert.Mlp0RefIdeal.sig) → Buf (Elt Ideal) ℓ) (g' : Dev Cert.Mlp0RefIdeal.nD → PrngReg), Pre_Mlp0Ideal m →
    (∀ c : Dev Cert.Mlp0Ideal.nD,
      m' ((c.tc : Thread Cert.Mlp0RefIdeal.nD Cert.Mlp0RefIdeal.τ).loc Cert.Mlp0RefIdeal.main_arg0) = m ((c.tc : Thread Cert.Mlp0Ideal.nD Cert.Mlp0Ideal.τ).loc Cert.Mlp0Ideal.main_arg0)
      ∧ m' ((c.tc : Thread Cert.Mlp0RefIdeal.nD Cert.Mlp0RefIdeal.τ).loc Cert.Mlp0RefIdeal.main_arg1) = m ((c.tc : Thread Cert.Mlp0Ideal.nD Cert.Mlp0Ideal.τ).loc Cert.Mlp0Ideal.main_arg1)
      ∧ m' ((c.tc : Thread Cert.Mlp0RefIdeal.nD Cert.Mlp0RefIdeal.τ).loc Cert.Mlp0RefIdeal.main_arg2) = m ((c.tc : Thread Cert.Mlp0Ideal.nD Cert.Mlp0Ideal.τ).loc Cert.Mlp0Ideal.main_arg2)
      ∧ m' ((c.tc : Thread Cert.Mlp0RefIdeal.nD Cert.Mlp0RefIdeal.τ).loc Cert.Mlp0RefIdeal.main_arg3) = m ((c.tc : Thread Cert.Mlp0Ideal.nD Cert.Mlp0Ideal.τ).loc Cert.Mlp0Ideal.main_arg3)
      ∧ m' ((c.tc : Thread Cert.Mlp0RefIdeal.nD Cert.Mlp0RefIdeal.τ).loc Cert.Mlp0RefIdeal.main_arg4) = m ((c.tc : Thread Cert.Mlp0Ideal.nD Cert.Mlp0Ideal.τ).loc Cert.Mlp0Ideal.main_arg4)
      ∧ m' ((c.tc : Thread Cert.Mlp0RefIdeal.nD Cert.Mlp0RefIdeal.τ).loc Cert.Mlp0RefIdeal.main_arg5) = m ((c.tc : Thread Cert.Mlp0Ideal.nD Cert.Mlp0Ideal.τ).loc Cert.Mlp0Ideal.main_arg5)
      ∧ m' ((c.tc : Thread Cert.Mlp0RefIdeal.nD Cert.Mlp0RefIdeal.τ).loc Cert.Mlp0RefIdeal.main_arg6) = m ((c.tc : Thread Cert.Mlp0Ideal.nD Cert.Mlp0Ideal.τ).loc Cert.Mlp0Ideal.main_arg6)) →
    ∃ (v0 : (c : Dev Cert.Mlp0Ideal.nD) → Buf (Elt Ideal) ((c.tc : Thread Cert.Mlp0Ideal.nD Cert.Mlp0Ideal.τ).loc Cert.Mlp0Ideal.main_v4)),
      θ_run (Cert.Mlp0Ideal.defs (F := Ideal)) (onTc (τ := Cert.Mlp0Ideal.τ) (Cert.Mlp0Ideal.main (F := Ideal))) ⟨m, fun _ => 0, g⟩ (fun r => ∀ c : Dev Cert.Mlp0Ideal.nD,
          r.2.mem ((c.tc : Thread Cert.Mlp0Ideal.nD Cert.Mlp0Ideal.τ).loc Cert.Mlp0Ideal.main_v4) = v0 c
          ∧ r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
          ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
          ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
          ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3)
          ∧ r.2.mem ((c.tc : Thread Cert.Mlp0Ideal.nD Cert.Mlp0Ideal.τ).loc Cert.Mlp0Ideal.main_arg4) = m ((c.tc : Thread Cert.Mlp0Ideal.nD Cert.Mlp0Ideal.τ).loc Cert.Mlp0Ideal.main_arg4)
          ∧ r.2.mem ((c.tc : Thread Cert.Mlp0Ideal.nD Cert.Mlp0Ideal.τ).loc Cert.Mlp0Ideal.main_arg5) = m ((c.tc : Thread Cert.Mlp0Ideal.nD Cert.Mlp0Ideal.τ).loc Cert.Mlp0Ideal.main_arg5)
          ∧ r.2.mem ((c.tc : Thread Cert.Mlp0Ideal.nD Cert.Mlp0Ideal.τ).loc Cert.Mlp0Ideal.main_arg6) = m ((c.tc : Thread Cert.Mlp0Ideal.nD Cert.Mlp0Ideal.τ).loc Cert.Mlp0Ideal.main_arg6))
      ∧ θ_run (Cert.Mlp0RefIdeal.defs (F := Ideal)) (onTc (τ := Cert.Mlp0RefIdeal.τ) (Cert.Mlp0RefIdeal.main (F := Ideal))) ⟨m', fun _ => 0, g'⟩ (fun r => ∀ c : Dev Cert.Mlp0RefIdeal.nD,
          r.2.mem ((c.tc : Thread Cert.Mlp0RefIdeal.nD Cert.Mlp0RefIdeal.τ).loc Cert.Mlp0RefIdeal.main_v22) = v0 c
          ∧ r.2.mem ((c.tc : Thread Cert.Mlp0RefIdeal.nD Cert.Mlp0RefIdeal.τ).loc Cert.Mlp0RefIdeal.main_arg0) = m' ((c.tc : Thread Cert.Mlp0RefIdeal.nD Cert.Mlp0RefIdeal.τ).loc Cert.Mlp0RefIdeal.main_arg0)
          ∧ r.2.mem ((c.tc : Thread Cert.Mlp0RefIdeal.nD Cert.Mlp0RefIdeal.τ).loc Cert.Mlp0RefIdeal.main_arg1) = m' ((c.tc : Thread Cert.Mlp0RefIdeal.nD Cert.Mlp0RefIdeal.τ).loc Cert.Mlp0RefIdeal.main_arg1)
          ∧ r.2.mem ((c.tc : Thread Cert.Mlp0RefIdeal.nD Cert.Mlp0RefIdeal.τ).loc Cert.Mlp0RefIdeal.main_arg2) = m' ((c.tc : Thread Cert.Mlp0RefIdeal.nD Cert.Mlp0RefIdeal.τ).loc Cert.Mlp0RefIdeal.main_arg2)
          ∧ r.2.mem ((c.tc : Thread Cert.Mlp0RefIdeal.nD Cert.Mlp0RefIdeal.τ).loc Cert.Mlp0RefIdeal.main_arg3) = m' ((c.tc : Thread Cert.Mlp0RefIdeal.nD Cert.Mlp0RefIdeal.τ).loc Cert.Mlp0RefIdeal.main_arg3)
          ∧ r.2.mem ((c.tc : Thread Cert.Mlp0RefIdeal.nD Cert.Mlp0RefIdeal.τ).loc Cert.Mlp0RefIdeal.main_arg4) = m' ((c.tc : Thread Cert.Mlp0RefIdeal.nD Cert.Mlp0RefIdeal.τ).loc Cert.Mlp0RefIdeal.main_arg4)
          ∧ r.2.mem ((c.tc : Thread Cert.Mlp0RefIdeal.nD Cert.Mlp0RefIdeal.τ).loc Cert.Mlp0RefIdeal.main_arg5) = m' ((c.tc : Thread Cert.Mlp0RefIdeal.nD Cert.Mlp0RefIdeal.τ).loc Cert.Mlp0RefIdeal.main_arg5)
          ∧ r.2.mem ((c.tc : Thread Cert.Mlp0RefIdeal.nD Cert.Mlp0RefIdeal.τ).loc Cert.Mlp0RefIdeal.main_arg6) = m' ((c.tc : Thread Cert.Mlp0RefIdeal.nD Cert.Mlp0RefIdeal.τ).loc Cert.Mlp0RefIdeal.main_arg6))

def preserves_Qkv_QkvIdeal : Prop :=
  IdealRules.named_const.Statement Cert.QkvIdeal.κ "qscale" .f32 0x3E38AA3B#32 (((8 * (Real.log 2))⁻¹ : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v40_0)) (v1 : (c : Dev Cert.QkvIdeal.nD) → Buf (Elt Ideal) ((c.tc : Thread Cert.QkvIdeal.nD Cert.QkvIdeal.τ).loc Cert.QkvIdeal.main_v40_1)) (v2 : (c : Dev Cert.QkvIdeal.nD) → Buf (Elt Ideal) ((c.tc : Thread Cert.QkvIdeal.nD Cert.QkvIdeal.τ).loc Cert.QkvIdeal.main_v40_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v40_0) = v0 c
          ∧ r.2.mem ((c.tc : Thread Cert.QkvIdeal.nD Cert.QkvIdeal.τ).loc Cert.QkvIdeal.main_v40_1) = v1 c
          ∧ r.2.mem ((c.tc : Thread Cert.QkvIdeal.nD Cert.QkvIdeal.τ).loc Cert.QkvIdeal.main_v40_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v96) = v0 c
          ∧ r.2.mem ((c.tc : Thread Cert.QkvRefIdeal.nD Cert.QkvRefIdeal.τ).loc Cert.QkvRefIdeal.main_v98) = v1 c
          ∧ r.2.mem ((c.tc : Thread Cert.QkvRefIdeal.nD Cert.QkvRefIdeal.τ).loc Cert.QkvRefIdeal.main_v99) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Kernel_KernelIdeal : Prop :=
  IdealRules.named_const.Statement Cert.KernelIdeal.κ "log2e" .f32 0x3FB8AA3B#32 (((Real.log 2)⁻¹ : ℝ) : EReal)

def algebraic_KernelIdeal_RefIdeal_pre_finite_scores [hKernelIdeal : Cert.KernelIdeal.Facts] [hRefIdeal : Cert.RefIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal_finite_scores m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)
      ∧ m' ((c.tc : Thread Cert.RefIdeal.nD Cert.RefIdeal.τ).loc Cert.RefIdeal.main_arg7) = m ((c.tc : Thread Cert.KernelIdeal.nD Cert.KernelIdeal.τ).loc Cert.KernelIdeal.main_arg7)
      ∧ m' ((c.tc : Thread Cert.RefIdeal.nD Cert.RefIdeal.τ).loc Cert.RefIdeal.main_arg8) = m ((c.tc : Thread Cert.KernelIdeal.nD Cert.KernelIdeal.τ).loc Cert.KernelIdeal.main_arg8)
      ∧ m' ((c.tc : Thread Cert.RefIdeal.nD Cert.RefIdeal.τ).loc Cert.RefIdeal.main_arg9) = m ((c.tc : Thread Cert.KernelIdeal.nD Cert.KernelIdeal.τ).loc Cert.KernelIdeal.main_arg9)
      ∧ m' ((c.tc : Thread Cert.RefIdeal.nD Cert.RefIdeal.τ).loc Cert.RefIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v33) = v0 c
          ∧ r.2.mem ((c.tc : Thread Cert.RefIdeal.nD Cert.RefIdeal.τ).loc Cert.RefIdeal.main_v117) = v1 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7)
          ∧ r.2.mem ((c.tc : Thread Cert.RefIdeal.nD Cert.RefIdeal.τ).loc Cert.RefIdeal.main_arg8) = m' ((c.tc : Thread Cert.RefIdeal.nD Cert.RefIdeal.τ).loc Cert.RefIdeal.main_arg8)
          ∧ r.2.mem ((c.tc : Thread Cert.RefIdeal.nD Cert.RefIdeal.τ).loc Cert.RefIdeal.main_arg9) = m' ((c.tc : Thread Cert.RefIdeal.nD Cert.RefIdeal.τ).loc Cert.RefIdeal.main_arg9)
          ∧ r.2.mem ((c.tc : Thread Cert.RefIdeal.nD Cert.RefIdeal.τ).loc Cert.RefIdeal.main_arg10) = m' ((c.tc : Thread Cert.RefIdeal.nD Cert.RefIdeal.τ).loc Cert.RefIdeal.main_arg10))

def Claim : Prop :=
  ∃ (hMlp1 : Cert.Mlp1.Facts) (hMlp1Ideal : Cert.Mlp1Ideal.Facts) (hMlp1RefIdeal : Cert.Mlp1RefIdeal.Facts) (hMlp0 : Cert.Mlp0.Facts) (hMlp0Ideal : Cert.Mlp0Ideal.Facts) (hMlp0RefIdeal : Cert.Mlp0RefIdeal.Facts) (hQkv : Cert.Qkv.Facts) (hQkvIdeal : Cert.QkvIdeal.Facts) (hQkvRefIdeal : Cert.QkvRefIdeal.Facts) (hKernel : Cert.Kernel.Facts) (hKernelIdeal : Cert.KernelIdeal.Facts) (hRefIdeal : Cert.RefIdeal.Facts) (hPre_finite_scores : Cert.Pre_finite_scores.Facts),
    quiescent_Mlp1 (hMlp1 := hMlp1)
    ∧ quiescent_Mlp1Ideal (hMlp1Ideal := hMlp1Ideal)
    ∧ quiescent_Mlp1RefIdeal (hMlp1RefIdeal := hMlp1RefIdeal)
    ∧ quiescent_Mlp0 (hMlp0 := hMlp0)
    ∧ quiescent_Mlp0Ideal (hMlp0Ideal := hMlp0Ideal)
    ∧ quiescent_Mlp0RefIdeal (hMlp0RefIdeal := hMlp0RefIdeal)
    ∧ quiescent_Qkv (hQkv := hQkv)
    ∧ quiescent_QkvIdeal (hQkvIdeal := hQkvIdeal)
    ∧ quiescent_QkvRefIdeal (hQkvRefIdeal := hQkvRefIdeal)
    ∧ quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_RefIdeal (hRefIdeal := hRefIdeal)
    ∧ quiescent_RefIdeal_pre_finite_scores (hRefIdeal := hRefIdeal) (hPre_finite_scores := hPre_finite_scores)
    ∧ preserves_Mlp1_Mlp1Ideal
    ∧ algebraic_Mlp1Ideal_Mlp1RefIdeal (hMlp1Ideal := hMlp1Ideal) (hMlp1RefIdeal := hMlp1RefIdeal)
    ∧ preserves_Mlp0_Mlp0Ideal
    ∧ algebraic_Mlp0Ideal_Mlp0RefIdeal (hMlp0Ideal := hMlp0Ideal) (hMlp0RefIdeal := hMlp0RefIdeal)
    ∧ preserves_Qkv_QkvIdeal
    ∧ algebraic_QkvIdeal_QkvRefIdeal (hQkvIdeal := hQkvIdeal) (hQkvRefIdeal := hQkvRefIdeal)
    ∧ preserves_Kernel_KernelIdeal
    ∧ algebraic_KernelIdeal_RefIdeal_pre_finite_scores (hKernelIdeal := hKernelIdeal) (hRefIdeal := hRefIdeal) (hPre_finite_scores := hPre_finite_scores)
-- ==== Pre_finite_scores.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x4096x1024 : Shape := ⟨3, ![8, 4096, 1024]⟩
abbrev S8x4096x256 : Shape := ⟨3, ![8, 4096, 256]⟩
abbrev S16 : Shape := ⟨1, ![16]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x4096x256 : S_.BroadcastsInDim S8x4096x256 (![] : Fin 0 → Fin S8x4096x256.rank)
  reducesTo_S8x4096x256_S_d0_1_2 : S8x4096x256.ReducesTo [0, 1, 2] S_
  bcast_S_S16 : S_.BroadcastsInDim S16 (![] : Fin 0 → Fin S16.rank)
  reducesTo_S16_S_d0 : S16.ReducesTo [0] S_

variable [Facts]

def fn {F : FTy → Type} [FloatOps F] (main_arg0 : FVec F S32768x1024 .f32) (main_arg1 : FVec F S32768x1024 .bf16) (main_arg2 : FVec F S1024x1024 .f32) (main_arg3 : FVec F S1024 .f32) (main_arg4 : FVec F S1024x4096 .f32) (main_arg5 : FVec F S4096x1024 .f32) (main_arg6 : FVec F S1024 .f32) (main_arg7 : FVec F S8x4096x1024 .bf16) (main_arg8 : FVec F S8x4096x256 .bf16) (main_arg9 : FVec F S8x4096x256 .bf16) (main_arg10 : FVec F S16 .f32) : IVec S_ 1 :=
  let main_v0 : FVec F S8x4096x1024 .f32 := (extf .f32 · bitsLt_bf16_f32) main_arg7
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_c : IVec S_ 1 := constantI S_ 1 1#1
  let main_v4 : IVec S_ 1 := (fun x v => Host.reduce IntOp.andi x v reducesTo_S8x4096x1024_S_d0_1_2 h_S_) main_v3 main_c
  let main_v5 : FVec F S8x4096x256 .f32 := (extf .f32 · bitsLt_bf16_f32) main_arg8
  let main_v6 : FVec F S8x4096x256 .f32 := Host.absf main_v5
  let main_cst_0 : FVec F S_ .f32 := constant S_ .f32 0x7F800000#32
  let main_v7 : FVec F S8x4096x256 .f32 := broadcastInDim S8x4096x256 ![] bcast_S_S8x4096x256 main_cst_0
  let main_v8 : IVec S8x4096x256 1 := cmpf .olt main_v6 main_v7
  let main_c_1 : IVec S_ 1 := constantI S_ 1 1#1
  let main_v9 : IVec S_ 1 := (fun x v => Host.reduce IntOp.andi x v reducesTo_S8x4096x256_S_d0_1_2 h_S_) main_v8 main_c_1
  let main_v10 : IVec S_ 1 := andi main_v4 main_v9
  let main_v11 : FVec F S16 .f32 := Host.absf main_arg10
  let main_cst_2 : FVec F S_ .f32 := constant S_ .f32 0x7F800000#32
  let main_v12 : FVec F S16 .f32 := broadcastInDim S16 ![] bcast_S_S16 main_cst_2
  let main_v13 : IVec S16 1 := cmpf .olt main_v11 main_v12
  let main_c_3 : IVec S_ 1 := constantI S_ 1 1#1
  let main_v14 : IVec S_ 1 := (fun x v => Host.reduce IntOp.andi x v reducesTo_S16_S_d0 h_S_) main_v13 main_c_3
  let main_v15 : IVec S_ 1 := andi main_v10 main_v14
  main_v15
-- ==== Mlp1.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Mlp1RefIdeal.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x4096, .f32⟩
  | .hbm, ⟨27, _⟩ => ⟨S_, .f32⟩
  | .hbm, ⟨28, _⟩ => ⟨S32768x4096, .f32⟩
  | .hbm, ⟨29, _⟩ => ⟨S32768x4096, .f32⟩
  | .hbm, ⟨30, _⟩ => ⟨S32768x4096, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Mlp0.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Mlp0RefIdeal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S32768x512, .f32⟩
  | .hbm, ⟨8, _⟩ => ⟨S32768x512, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S32768x4096, .f32⟩
  | .hbm, ⟨29, _⟩ => ⟨S_, .f32⟩
  | .hbm, ⟨30, _⟩ => ⟨S32768x4096, .f32⟩
  | .hbm, ⟨31, _⟩ => ⟨S32768x4096, .f32⟩
  | .hbm, ⟨32, _⟩ => ⟨S32768x4096, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Qkv.lean ====
abbrev S32768x1024 : Shape := ⟨2, ![32768, 1024]⟩
abbrev S1024 : Shape := ⟨1, ![1024]⟩
abbrev S1024x1536 : Shape := ⟨2, ![1024, 1536]⟩
abbrev S1x1024 : Shape := ⟨2, ![1, 1024]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x4096x128 : Shape := ⟨3, ![1, 4096, 128]⟩
abbrev S3x4096x128 : Shape := ⟨3, ![3, 4096, 128]⟩
abbrev S32768x256 : Shape := ⟨2, ![32768, 256]⟩
abbrev S512x1024 : Shape := ⟨2, ![512, 1024]⟩
abbrev S3x512x128 : Shape := ⟨3, ![3, 512, 128]⟩
abbrev S512x256 : Shape := ⟨2, ![512, 256]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S1024x1280 : Shape := ⟨2, ![1024, 1280]⟩
abbrev S512x1280 : Shape := ⟨2, ![512, 1280]⟩
abbrev S1024x256 : Shape := ⟨2, ![1024, 256]⟩

abbrev nBuf : Space → Nat
  | .hbm => 53
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1536, .f32⟩
  | .hbm, ⟨3, _⟩ => ⟨S1x1024, .f32⟩
  | .hbm, ⟨4, _⟩ => ⟨S1024x1536, .bf16⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S4096, .f32⟩
  | .hbm, ⟨20, _⟩ => ⟨S4096x1, .f32⟩
  | .hbm, ⟨21, _⟩ => ⟨S1x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S_, .f32⟩
  | .hbm, ⟨28, _⟩ => ⟨S4096x48, .f32⟩
  | .hbm, ⟨29, _⟩ => ⟨S_, .f32⟩
  | .hbm, ⟨30, _⟩ => ⟨S4096x8, .f32⟩
  | .hbm, ⟨31, _⟩ => ⟨S_, .f32⟩
  | .hbm, ⟨32, _⟩ => ⟨S4096x48, .f32⟩
  | .hbm, ⟨33, _⟩ => ⟨S4096x64, .f32⟩
  | .hbm, ⟨34, _⟩ => ⟨S1x4096x1x64, .f32⟩
  | .hbm, ⟨35, _⟩ => ⟨S1x4096x2x64, .f32⟩
  | .hbm, ⟨36, _⟩ => ⟨S4096x128, .f32⟩
  | .hbm, ⟨37, _⟩ => ⟨S4096x64, .f32⟩
  | .hbm, ⟨38, _⟩ => ⟨S1x4096x1x64, .f32⟩
  | .hbm, ⟨39, _⟩ => ⟨S1x4096x2x64, .f32⟩
  | .hbm, ⟨40, _⟩ => ⟨S4096x128, .f32⟩
  | .hbm, ⟨41, _⟩ => ⟨S4096x8, .f32⟩
  | .hbm, ⟨42, _⟩ => ⟨S4096x64, .f32⟩
  | .hbm, ⟨43, _⟩ => ⟨S1x4096x1x64, .f32⟩
  | .hbm, ⟨44, _⟩ => ⟨S1x4096x2x64, .f32⟩
  | .hbm, ⟨45, _⟩ => ⟨S4096x128, .f32⟩
  | .hbm, ⟨46, _⟩ => ⟨S1x4096x128, .f32⟩
  | .hbm, ⟨47, _⟩ => ⟨S1x4096x128, .f32⟩
  | .hbm, ⟨48, _⟩ => ⟨S1x4096x128, .f32⟩
  | .hbm, ⟨49, _⟩ => ⟨S3x4096x128, .f32⟩
  | .hbm, ⟨50, _⟩ => ⟨S32768x1024, .bf16⟩
  | .hbm, ⟨51, _⟩ => ⟨S32768x256, .bf16⟩
  | .hbm, ⟨52, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S3x512x128, .f32⟩
  | .local _ .vmem, ⟨5, _⟩ => ⟨S3x512x128, .f32⟩
  | .local _ .vmem, ⟨6, _⟩ => ⟨S512x1024, .bf16⟩
  | .local _ .vmem, ⟨7, _⟩ => ⟨S512x1024, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40_0 : Ref sig .tc := ⟨.hbm, 50, rfl⟩
abbrev main_v40_1 : Ref sig .tc := ⟨.hbm, 51, rfl⟩
abbrev main_v40_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkvIdeal.lean ====
variable {F : FTy → Type} [FloatOps F] [Named F]
def κ : String → Option EReal := fun
  | "qscale" => some (((8 * (Real.log 2))⁻¹ : ℝ) : EReal)
  | _ => none
-- ==== QkvRefIdeal.lean ====
abbrev S32768x1024 : Shape := ⟨2, ![32768, 1024]⟩
abbrev S1024 : Shape := ⟨1, ![1024]⟩
abbrev S1024x1536 : Shape := ⟨2, ![1024, 1536]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1536 : Shape := ⟨2, ![32768, 1536]⟩
abbrev S8x4096x16x64 : Shape := ⟨4, ![8, 4096, 16, 64]⟩
abbrev S8 : Shape := ⟨1, ![8]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S8x4096x16x16 : Shape := ⟨4, ![8, 4096, 16, 16]⟩
abbrev S8x4096x16x8 : Shape := ⟨4, ![8, 4096, 16, 8]⟩
abbrev S8x4096x16x48 : Shape := ⟨4, ![8, 4096, 16, 48]⟩
abbrev S32768x256 : Shape := ⟨2, ![32768, 256]⟩
abbrev S8x4096x4x64 : Shape := ⟨4, ![8, 4096, 4, 64]⟩
abbrev S8x4096x4x16 : Shape := ⟨4, ![8, 4096, 4, 16]⟩
abbrev S8x4096x4x8 : Shape := ⟨4, ![8, 4096, 4, 8]⟩
abbrev S8x4096x4x48 : Shape := ⟨4, ![8, 4096, 4, 48]⟩

abbrev nBuf : Space → Nat
  | .hbm => 116
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1536, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x1536, .f32⟩
  | .hbm, ⟨20, _⟩ => ⟨S32768x1024, .f32⟩
  | .hbm, ⟨21, _⟩ => ⟨S8x4096x16x64, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S4096, .f32⟩
  | .hbm, ⟨37, _⟩ => ⟨S4096x1, .f32⟩
  | .hbm, ⟨38, _⟩ => ⟨S1x8, .f32⟩
  | .hbm, ⟨39, _⟩ => ⟨S4096x8, .f32⟩
  | .hbm, ⟨40, _⟩ => ⟨S4096x8, .f32⟩
  | .hbm, ⟨41, _⟩ => ⟨S4096x8, .f32⟩
  | .hbm, ⟨42, _⟩ => ⟨S4096x8, .f32⟩
  | .hbm, ⟨43, _⟩ => ⟨S1x4096x1x8, .f32⟩
  | .hbm, ⟨44, _⟩ => ⟨S4096x8, .f32⟩
  | .hbm, ⟨45, _⟩ => ⟨S1x4096x1x8, .f32⟩
  | .hbm, ⟨46, _⟩ => ⟨S8x4096x16x16, .f32⟩
  | .hbm, ⟨47, _⟩ => ⟨S8x4096x16x8, .f32⟩
  | .hbm, ⟨48, _⟩ => ⟨S8x4096x16x8, .f32⟩
  | .hbm, ⟨49, _⟩ => ⟨S8x4096x16x8, .f32⟩
  | .hbm, ⟨50, _⟩ => ⟨S8x4096x16x8, .f32⟩
  | .hbm, ⟨51, _⟩ => ⟨S8x4096x16x8, .f32⟩
  | .hbm, ⟨52, _⟩ => ⟨S8x4096x16x8, .f32⟩
  | .hbm, ⟨53, _⟩ => ⟨S8x4096x16x8, .f32⟩
  | .hbm, ⟨54, _⟩ => ⟨S8x4096x16x8, .f32⟩
  | .hbm, ⟨55, _⟩ => ⟨S8x4096x16x8, .f32⟩
  | .hbm, ⟨56, _⟩ => ⟨S8x4096x16x8, .f32⟩
  | .hbm, ⟨57, _⟩ => ⟨S8x4096x16x8, .f32⟩
  | .hbm, ⟨58, _⟩ => ⟨S8x4096x16x8, .f32⟩
  | .hbm, ⟨59, _⟩ => ⟨S8x4096x16x16, .f32⟩
  | .hbm, ⟨60, _⟩ => ⟨S8x4096x16x48, .f32⟩
  | .hbm, ⟨61, _⟩ => ⟨S8x4096x16x64, .f32⟩
  | .hbm, ⟨62, _⟩ => ⟨S32768x256, .f32⟩
  | .hbm, ⟨63, _⟩ => ⟨S8x4096x4x64, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S4096, .f32⟩
  | .hbm, ⟨79, _⟩ => ⟨S4096x1, .f32⟩
  | .hbm, ⟨80, _⟩ => ⟨S1x8, .f32⟩
  | .hbm, ⟨81, _⟩ => ⟨S4096x8, .f32⟩
  | .hbm, ⟨82, _⟩ => ⟨S4096x8, .f32⟩
  | .hbm, ⟨83, _⟩ => ⟨S4096x8, .f32⟩
  | .hbm, ⟨84, _⟩ => ⟨S4096x8, .f32⟩
  | .hbm, ⟨85, _⟩ => ⟨S1x4096x1x8, .f32⟩
  | .hbm, ⟨86, _⟩ => ⟨S4096x8, .f32⟩
  | .hbm, ⟨87, _⟩ => ⟨S1x4096x1x8, .f32⟩
  | .hbm, ⟨88, _⟩ => ⟨S8x4096x4x16, .f32⟩
  | .hbm, ⟨89, _⟩ => ⟨S8x4096x4x8, .f32⟩
  | .hbm, ⟨90, _⟩ => ⟨S8x4096x4x8, .f32⟩
  | .hbm, ⟨91, _⟩ => ⟨S8x4096x4x8, .f32⟩
  | .hbm, ⟨92, _⟩ => ⟨S8x4096x4x8, .f32⟩
  | .hbm, ⟨93, _⟩ => ⟨S8x4096x4x8, .f32⟩
  | .hbm, ⟨94, _⟩ => ⟨S8x4096x4x8, .f32⟩
  | .hbm, ⟨95, _⟩ => ⟨S8x4096x4x8, .f32⟩
  | .hbm, ⟨96, _⟩ => ⟨S8x4096x4x8, .f32⟩
  | .hbm, ⟨97, _⟩ => ⟨S8x4096x4x8, .f32⟩
  | .hbm, ⟨98, _⟩ => ⟨S8x4096x4x8, .f32⟩
  | .hbm, ⟨99, _⟩ => ⟨S8x4096x4x8, .f32⟩
  | .hbm, ⟨100, _⟩ => ⟨S8x4096x4x8, .f32⟩
  | .hbm, ⟨101, _⟩ => ⟨S8x4096x4x16, .f32⟩
  | .hbm, ⟨102, _⟩ => ⟨S8x4096x4x48, .f32⟩
  | .hbm, ⟨103, _⟩ => ⟨S8x4096x4x64, .f32⟩
  | .hbm, ⟨104, _⟩ => ⟨S32768x256, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S8x4096x16x64, .f32⟩
  | .hbm, ⟨110, _⟩ => ⟨S8x4096x16x64, .f32⟩
  | .hbm, ⟨111, _⟩ => ⟨S32768x1024, .f32⟩
  | .hbm, ⟨112, _⟩ => ⟨S32768x1024, .bf16⟩
  | .hbm, ⟨113, _⟩ => ⟨S32768x256, .f32⟩
  | .hbm, ⟨114, _⟩ => ⟨S32768x256, .bf16⟩
  | .hbm, ⟨115, _⟩ => ⟨S32768x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_6 : Ref sig .tc := ⟨.hbm, 65, rfl⟩
abbrev main_v55 : Ref sig .tc := ⟨.hbm, 66, rfl⟩
abbrev main_v56 : Ref sig .tc := ⟨.hbm, 67, rfl⟩
abbrev main_cst_7 : Ref sig .tc := ⟨.hbm, 68, rfl⟩
abbrev main_v57 : Ref sig .tc := ⟨.hbm, 69, rfl⟩
abbrev main_v58 : Ref sig .tc := ⟨.hbm, 70, rfl⟩
abbrev main_cst_8 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_9 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_cst_10 : Ref sig .tc := ⟨.hbm, 105, rfl⟩
abbrev main_v91 : Ref sig .tc := ⟨.hbm, 106, rfl⟩
abbrev main_cst_11 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩

abbrev nD : Nat := 1
abbrev τ : Topo := Topo.v7x

variable {F : FTy → Type} [FloatOps F]
-- ==== Kernel.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x4096x1024 : Shape := ⟨3, ![8, 4096, 1024]⟩
abbrev S8x4096x256 : Shape := ⟨3, ![8, 4096, 256]⟩
abbrev S16 : Shape := ⟨1, ![16]⟩
abbrev S1x1024 : Shape := ⟨2, ![1, 1024]⟩
abbrev S_ : Shape := ⟨0, ![]⟩
abbrev S512x1024 : Shape := ⟨2, ![512, 1024]⟩
abbrev S1x512x1024 : Shape := ⟨3, ![1, 512, 1024]⟩
abbrev S1x512x256 : Shape := ⟨3, ![1, 512, 256]⟩
abbrev S1x128x256 : Shape := ⟨3, ![1, 128, 256]⟩
abbrev S4x768x128 : Shape := ⟨3, ![4, 768, 128]⟩
abbrev S4x256x768 : Shape := ⟨3, ![4, 256, 768]⟩
abbrev S4x256x128 : Shape := ⟨3, ![4, 256, 128]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x64 : Shape := ⟨2, ![128, 64]⟩
abbrev S512x128 : Shape := ⟨2, ![512, 128]⟩
abbrev S1x512x128 : Shape := ⟨3, ![1, 512, 128]⟩
abbrev S512x64 : Shape := ⟨2, ![512, 64]⟩
abbrev S32x128 : Shape := ⟨2, ![32, 128]⟩
abbrev S256x128 : Shape := ⟨2, ![256, 128]⟩
abbrev S1x384x128 : Shape := ⟨3, ![1, 384, 128]⟩
abbrev S384x128 : Shape := ⟨2, ![384, 128]⟩
abbrev S768x128 : Shape := ⟨2, ![768, 128]⟩
abbrev S256x768 : Shape := ⟨2, ![256, 768]⟩
abbrev S1x256x768 : Shape := ⟨3, ![1, 256, 768]⟩
abbrev S1 : Shape := ⟨1, ![1]⟩
abbrev S1x32x128 : Shape := ⟨3, ![1, 32, 128]⟩
abbrev S32 : Shape := ⟨1, ![32]⟩
abbrev S32x1 : Shape := ⟨2, ![32, 1]⟩
abbrev S32x768 : Shape := ⟨2, ![32, 768]⟩
abbrev S1x32x768 : Shape := ⟨3, ![1, 32, 768]⟩
abbrev S1x256x128 : Shape := ⟨3, ![1, 256, 128]⟩

abbrev nBuf : Space → Nat
  | .hbm => 26
  | .vmem => 34
  | .smem => 1
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S8x4096x1024, .bf16⟩
  | .hbm, ⟨8, _⟩ => ⟨S8x4096x256, .bf16⟩
  | .hbm, ⟨9, _⟩ => ⟨S8x4096x256, .bf16⟩
  | .hbm, ⟨10, _⟩ => ⟨S16, .f32⟩
  | .hbm, ⟨11, _⟩ => ⟨S1024x1024, .bf16⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S8x4096x1024, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x4096x1024, .f32⟩
  | .hbm, ⟨22, _⟩ => ⟨S8x4096x1024, .f32⟩
  | .hbm, ⟨23, _⟩ => ⟨S8x4096x1024, .bf16⟩
  | .hbm, ⟨24, _⟩ => ⟨S32768x1024, .f32⟩
  | .hbm, ⟨25, _⟩ => ⟨S8x4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1x512x256, .bf16⟩
  | .local _ .vmem, ⟨12, _⟩ => ⟨S1x512x256, .bf16⟩
  | .local _ .vmem, ⟨13, _⟩ => ⟨S1x128x256, .bf16⟩
  | .local _ .vmem, ⟨14, _⟩ => ⟨S1x128x256, .bf16⟩
  | .local _ .vmem, ⟨15, _⟩ => ⟨S1x128x256, .bf16⟩
  | .local _ .vmem, ⟨16, _⟩ => ⟨S1x128x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x128x256, .bf16⟩
  | .local _ .vmem, ⟨20, _⟩ => ⟨S1x128x256, .bf16⟩
  | .local _ .vmem, ⟨21, _⟩ => ⟨S1x128x256, .bf16⟩
  | .local _ .vmem, ⟨22, _⟩ => ⟨S1x128x256, .bf16⟩
  | .local _ .vmem, ⟨23, _⟩ => ⟨S512x1024, .f32⟩
  | .local _ .vmem, ⟨24, _⟩ => ⟨S512x1024, .f32⟩
  | .local _ .vmem, ⟨25, _⟩ => ⟨S1x512x1024, .bf16⟩
  | .local _ .vmem, ⟨26, _⟩ => ⟨S1x512x1024, .bf16⟩
  | .local _ .vmem, ⟨27, _⟩ => ⟨S4x768x128, .bf16⟩
  | .local _ .vmem, ⟨28, _⟩ => ⟨S4x768x128, .bf16⟩
  | .local _ .vmem, ⟨29, _⟩ => ⟨S4x768x128, .bf16⟩
  | .local _ .vmem, ⟨30, _⟩ => ⟨S4x768x128, .bf16⟩
  | .local _ .vmem, ⟨31, _⟩ => ⟨S4x256x768, .f32⟩
  | .local _ .vmem, ⟨32, _⟩ => ⟨S4x256x768, .bf16⟩
  | .local _ .vmem, ⟨33, _⟩ => ⟨S4x256x128, .f32⟩
  | .local _ .smem, ⟨0, _⟩ => ⟨S16, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli v26 c4_i32
  let c1_i32_10 : BitVec 32 := 1#32
  let v28 : BitVec 32 := Scalar.subi v27 c1_i32_10
  let c0_i32_11 : BitVec 32 := 0#32
  let v29 : BitVec 32 := Scalar.maxsi v28 c0_i32_11
  let c0_i32_12 : BitVec 32 := 0#32
  let c0_i32_13 : BitVec 32 := 0#32
  ![v16.toNat, v29.toNat, c0_i32_12.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c4_i32 : BitVec 32 := 4#32
  let v28 : BitVec 32 := Scalar.muli v27 c4_i32
  let c31_i32 : BitVec 32 := 31#32
  let v29 : BitVec 32 := Scalar.minsi v28 c31_i32
  let c0_i32_11 : BitVec 32 := 0#32
  let c0_i32_12 : BitVec 32 := 0#32
  ![v16.toNat, v29.toNat, c0_i32_11.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli v26 c4_i32
  let c1_i32_10 : BitVec 32 := 1#32
  let v28 : BitVec 32 := Scalar.subi v27 c1_i32_10
  let c0_i32_11 : BitVec 32 := 0#32
  let v29 : BitVec 32 := Scalar.maxsi v28 c0_i32_11
  let c0_i32_12 : BitVec 32 := 0#32
  let c0_i32_13 : BitVec 32 := 0#32
  ![v16.toNat, v29.toNat, c0_i32_12.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c4_i32 : BitVec 32 := 4#32
  let v28 : BitVec 32 := Scalar.muli v27 c4_i32
  let c31_i32 : BitVec 32 := 31#32
  let v29 : BitVec 32 := Scalar.minsi v28 c31_i32
  let c0_i32_11 : BitVec 32 := 0#32
  let c0_i32_12 : BitVec 32 := 0#32
  ![v16.toNat, v29.toNat, c0_i32_11.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== RefIdeal.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x4096x1024 : Shape := ⟨3, ![8, 4096, 1024]⟩
abbrev S8x4096x256 : Shape := ⟨3, ![8, 4096, 256]⟩
abbrev S16 : Shape := ⟨1, ![16]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩
abbrev S8x4096x16x64 : Shape := ⟨4, ![8, 4096, 16, 64]⟩
abbrev S8x4096x4x64 : Shape := ⟨4, ![8, 4096, 4, 64]⟩
abbrev S8x32x128x4x4x64 : Shape := ⟨6, ![8, 32, 128, 4, 4, 64]⟩
abbrev S8x4352x4x64 : Shape := ⟨4, ![8, 4352, 4, 64]⟩
abbrev S8x34x128x4x64 : Shape := ⟨5, ![8, 34, 128, 4, 64]⟩
abbrev S8x32x128x4x64 : Shape := ⟨5, ![8, 32, 128, 4, 64]⟩
abbrev S8x32x384x4x64 : Shape := ⟨5, ![8, 32, 384, 4, 64]⟩
abbrev S8x32x4x384x128x4 : Shape := ⟨6, ![8, 32, 4, 384, 128, 4]⟩
abbrev S8x32x4x4x128x384 : Shape := ⟨6, ![8, 32, 4, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x1x384 : Shape := ⟨3, ![32, 1, 384]⟩
abbrev S32x128x1 : Shape := ⟨3, ![32, 128, 1]⟩
abbrev S32x128x384 : Shape := ⟨3, ![32, 128, 384]⟩
abbrev S1x32x1x1x128x384 : Shape := ⟨6, ![1, 32, 1, 1, 128, 384]⟩
abbrev S4x4 : Shape := ⟨2, ![4, 4]⟩
abbrev S1x1x4x4x1 : Shape := ⟨5, ![1, 1, 4, 4, 1]⟩
abbrev S8x32x4x4x128 : Shape := ⟨5, ![8, 32, 4, 4, 128]⟩
abbrev S8x32x4x4x128x1 : Shape := ⟨6, ![8, 32, 4, 4, 128, 1]⟩
abbrev S8x32x4x64x4x128 : Shape := ⟨6, ![8, 32, 4, 64, 4, 128]⟩

abbrev nBuf : Space → Nat
  | .hbm => 154
  | .vmem => 0
  | .smem => 0
  | _ => 0

abbrev hbmTy0_0 (i : Nat) : BufTy := match i % 128 with
  | 0 => ⟨S32768x1024, .f32⟩
  | 1 => ⟨S32768x1024, .bf16⟩
  | 2 => ⟨S1024x1024, .f32⟩
  | 3 => ⟨S1024, .f32⟩
  | 4 => ⟨S1024x4096, .f32⟩
  | 5 => ⟨S4096x1024, .f32⟩
  | 6 => ⟨S1024, .f32⟩
  | 7 => ⟨S8x4096x1024, .bf16⟩
  | 8 => ⟨S8x4096x256, .bf16⟩
  | 9 => ⟨S8x4096x256, .bf16⟩
  | 10 => ⟨S16, .f32⟩
  | 11 => ⟨S32768x1024, .f32⟩
  | 12 => ⟨S32768x1024, .f32⟩
  | 13 => ⟨S32768x1024, .f32⟩
  | 14 => ⟨S32768x1024, .f32⟩
  | 15 => ⟨S_, .f32⟩
  | 16 => ⟨S32768, .f32⟩
  | 17 => ⟨S32768x1, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x1, .f32⟩
  | 25 => ⟨S32768x1024, .f32⟩
  | 26 => ⟨S32768x1024, .f32⟩
  | 27 => ⟨S1x1024, .f32⟩
  | 28 => ⟨S32768x1024, .f32⟩
  | 29 => ⟨S32768x1024, .f32⟩
  | 30 => ⟨S32768x4096, .f32⟩
  | 31 => ⟨S_, .f32⟩
  | 32 => ⟨S32768x4096, .f32⟩
  | 33 => ⟨S32768x4096, .f32⟩
  | 34 => ⟨S32768x4096, .f32⟩
  | 35 => ⟨S32768x1024, .f32⟩
  | 36 => ⟨S32768x1024, .f32⟩
  | 37 => ⟨S32768x1024, .f32⟩
  | 38 => ⟨S_, .f32⟩
  | 39 => ⟨S32768, .f32⟩
  | 40 => ⟨S32768x1, .f32⟩
  | 41 => ⟨S_, .f32⟩
  | 42 => ⟨S32768x1, .f32⟩
  | 43 => ⟨S32768x1, .f32⟩
  | 44 => ⟨S_, .f32⟩
  | 45 => ⟨S32768x1, .f32⟩
  | 46 => ⟨S32768x1, .f32⟩
  | 47 => ⟨S32768x1, .f32⟩
  | 48 => ⟨S32768x1024, .f32⟩
  | 49 => ⟨S32768x1024, .f32⟩
  | 50 => ⟨S1x1024, .f32⟩
  | 51 => ⟨S32768x1024, .f32⟩
  | 52 => ⟨S32768x1024, .f32⟩
  | 53 => ⟨S8x4096x1024, .f32⟩
  | 54 => ⟨S8x4096x256, .f32⟩
  | 55 => ⟨S8x4096x256, .f32⟩
  | 56 => ⟨S8x4096x16x64, .f32⟩
  | 57 => ⟨S8x4096x4x64, .f32⟩
  | 58 => ⟨S8x4096x4x64, .f32⟩
  | 59 => ⟨S8x32x128x4x4x64, .f32⟩
  | 60 => ⟨S_, .i32⟩
  | 61 => ⟨S_, .f32⟩
  | 62 => ⟨S8x4352x4x64, .f32⟩
  | 63 => ⟨S8x34x128x4x64, .f32⟩
  | 64 => ⟨S_, .i32⟩
  | 65 => ⟨S_, .f32⟩
  | 66 => ⟨S8x4352x4x64, .f32⟩
  | 67 => ⟨S8x34x128x4x64, .f32⟩
  | 68 => ⟨S8x32x128x4x64, .f32⟩
  | 69 => ⟨S8x32x128x4x64, .f32⟩
  | 70 => ⟨S8x32x128x4x64, .f32⟩
  | 71 => ⟨S8x32x384x4x64, .f32⟩
  | 72 => ⟨S8x32x128x4x64, .f32⟩
  | 73 => ⟨S8x32x128x4x64, .f32⟩
  | 74 => ⟨S8x32x128x4x64, .f32⟩
  | 75 => ⟨S8x32x384x4x64, .f32⟩
  | 76 => ⟨S8x32x4x384x128x4, .f32⟩
  | 77 => ⟨S8x32x4x4x128x384, .f32⟩
  | 78 => ⟨S_, .f32⟩
  | 79 => ⟨S8x32x4x4x128x384, .f32⟩
  | 80 => ⟨S8x32x4x4x128x384, .f32⟩
  | 81 => ⟨S32, .i32⟩
  | 82 => ⟨S32x1, .i32⟩
  | 83 => ⟨S_, .i32⟩
  | 84 => ⟨S32x1, .i32⟩
  | 85 => ⟨S32x1, .i32⟩
  | 86 => ⟨S128, .i32⟩
  | 87 => ⟨S1x128, .i32⟩
  | 88 => ⟨S32x128, .i32⟩
  | 89 => ⟨S32x128, .i32⟩
  | 90 => ⟨S32x128, .i32⟩
  | 91 => ⟨S32, .i32⟩
  | 92 => ⟨S32x1, .i32⟩
  | 93 => ⟨S_, .i32⟩
  | 94 => ⟨S32x1, .i32⟩
  | 95 => ⟨S32x1, .i32⟩
  | 96 => ⟨S_, .i32⟩
  | 97 => ⟨S32x1, .i32⟩
  | 98 => ⟨S32x1, .i32⟩
  | 99 => ⟨S384, .i32⟩
  | 100 => ⟨S1x384, .i32⟩
  | 101 => ⟨S32x384, .i32⟩
  | 102 => ⟨S32x384, .i32⟩
  | 103 => ⟨S32x384, .i32⟩
  | 104 => ⟨S32x1x384, .i32⟩
  | 105 => ⟨S32x128x1, .i32⟩
  | 106 => ⟨S32x128x384, .i32⟩
  | 107 => ⟨S32x128x384, .i32⟩
  | 108 => ⟨S32x128x384, .i32⟩
  | 109 => ⟨S32x128x384, .i32⟩
  | 110 => ⟨S_, .i32⟩
  | 111 => ⟨S32x128x384, .i32⟩
  | 112 => ⟨S32x128x384, .i1⟩
  | 113 => ⟨S_, .i32⟩
  | 114 => ⟨S32x384, .i32⟩
  | 115 => ⟨S32x384, .i1⟩
  | 116 => ⟨S32x1x384, .i1⟩
  | 117 => ⟨S32x128x384, .i1⟩
  | 118 => ⟨S32x128x384, .i1⟩
  | 119 => ⟨S_, .i32⟩
  | 120 => ⟨S32x384, .i32⟩
  | 121 => ⟨S32x384, .i1⟩
  | 122 => ⟨S32x1x384, .i1⟩
  | 123 => ⟨S32x128x384, .i1⟩
  | 124 => ⟨S32x128x384, .i1⟩
  | 125 => ⟨S1x32x1x1x128x384, .i1⟩
  | 126 => ⟨S_, .f32⟩
  | 127 => ⟨S_, .f32⟩
  | _ => ⟨S32768x1024, .f32⟩

abbrev hbmTy0_1 (i : Nat) : BufTy := match i % 128 with
  | 0 => ⟨S8x32x4x4x128x384, .i1⟩
  | 1 => ⟨S8x32x4x4x128x384, .f32⟩
  | 2 => ⟨S8x32x4x4x128x384, .f32⟩
  | 3 => ⟨S4x4, .f32⟩
  | 4 => ⟨S1x1x4x4x1, .f32⟩
  | 5 => ⟨S_, .f32⟩
  | 6 => ⟨S8x32x4x4x128, .f32⟩
  | 7 => ⟨S8x32x4x4x128, .f32⟩
  | 8 => ⟨S8x32x4x4x128, .f32⟩
  | 9 => ⟨S8x32x4x4x128x1, .f32⟩
  | 10 => ⟨S8x32x4x4x128x384, .f32⟩
  | 11 => ⟨S8x32x4x4x128x384, .f32⟩
  | 12 => ⟨S8x32x4x4x128x384, .f32⟩
  | 13 => ⟨S_, .f32⟩
  | 14 => ⟨S8x32x4x4x128, .f32⟩
  | 15 => ⟨S8x32x4x4x128, .f32⟩
  | 16 => ⟨S8x32x4x4x128, .f32⟩
  | 17 => ⟨S8x32x4x4x128, .f32⟩
  | 18 => ⟨S8x32x4x4x128, .f32⟩
  | 19 => ⟨S8x32x4x4x128x1, .f32⟩
  | 20 => ⟨S8x32x4x4x128x384, .f32⟩
  | 21 => ⟨S8x32x4x4x128x384, .f32⟩
  | 22 => ⟨S8x32x4x64x4x128, .f32⟩
  | 23 => ⟨S8x32x128x4x4x64, .f32⟩
  | 24 => ⟨S8x4096x1024, .f32⟩
  | 25 => ⟨S8x4096x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c : Ref sig .tc := ⟨.hbm, 60, rfl⟩
abbrev main_call1_v0 : Ref sig .tc := ⟨.hbm, 61, rfl⟩
abbrev main_v41 : Ref sig .tc := ⟨.hbm, 62, rfl⟩
abbrev main_v42 : Ref sig .tc := ⟨.hbm, 63, rfl⟩
abbrev main_c_5 : Ref sig .tc := ⟨.hbm, 64, rfl⟩
abbrev main_call2_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_6 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_8 : Ref sig .tc := ⟨.hbm, 93, rfl⟩
abbrev main_v68 : Ref sig .tc := ⟨.hbm, 94, rfl⟩
abbrev main_v69 : Ref sig .tc := ⟨.hbm, 95, rfl⟩
abbrev main_c_9 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_10 : Ref sig .tc := ⟨.hbm, 110, rfl⟩
abbrev main_v83 : Ref sig .tc := ⟨.hbm, 111, rfl⟩
abbrev main_v84 : Ref sig .tc := ⟨.hbm, 112, rfl⟩
abbrev main_c_11 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_12 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_13 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_14 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_15 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩

abbrev nD : Nat := 1
abbrev τ : Topo := Topo.v7x

variable {F : FTy → Type} [FloatOps F]
-- ==== Proof.MlpRow.lean ====
/-
  ONE ROW OF THE OUTPUT PROJECTION AND THE SQUARED-RELU MLP, over the extended reals: what both the kernel's block of rows
  and the reference's whole array compute at each of their rows. The names say what a row of the layer is; the
  equations say that a row's sum over the 4096 hidden units may be taken in four runs of 1024.
-/
module

public import Idealize.ShloMosaic.Lib.Pointwise

@[expose] public section

noncomputable section

namespace Cert.MlpRow

open Idealize.ShloMosaic

/-- The residual row plus the projected row `o · wo`. -/
def proj (x : Fin 1024 → EReal) (o : Fin 1024 → EReal) (wo : Fin 1024 → Fin 1024 → EReal) (c : Fin 1024) : EReal :=
  x c + ∑ k : Fin 1024, o k * wo k c

/-- The same where the row to project comes as two halves. -/
def proj2 (x : Fin 1024 → EReal) (a b : Fin 512 → EReal) (wo : Fin 1024 → Fin 1024 → EReal) (c : Fin 1024) : EReal :=
  x c + (∑ k : Fin 512, a k * wo ⟨k.val, by have := k.isLt; omega⟩ c
    + ∑ k : Fin 512, b k * wo ⟨512 + k.val, by have := k.isLt; omega⟩ c)

/-- The row divided by its root mean square, scaled by `g`. -/
def rms (h g : Fin 1024 → EReal) (c : Fin 1024) : EReal :=
  h c * Ideal.rsqrt (Ideal.div (∑ k : Fin 1024, h k * h k) (Ideal.ofBits .f32 0x44800000#32) + Ideal.ofBits .f32 0x3727C5AC#32) * g c

/-- Hidden unit `j` of the MLP: the squared positive part of the normalised row against column `j` of `up`. -/
def act (n : Fin 1024 → EReal) (up : Fin 1024 → Fin 4096 → EReal) (j : Fin 4096) : EReal :=
  max (∑ k : Fin 1024, n k * up k j) 0 * max (∑ k : Fin 1024, n k * up k j) 0

/-- The row after the MLP's residual addition. -/
def mlp (h g : Fin 1024 → EReal) (up : Fin 1024 → Fin 4096 → EReal) (dn : Fin 4096 → Fin 1024 → EReal) (c : Fin 1024) : EReal :=
  h c + ∑ j : Fin 4096, act (rms h g) up j * dn j c

/-- Run `q` of 1024 hidden units, of the four that make up the 4096. -/
def hid (q : Nat) (hq : q < 4) (k : Fin 1024) : Fin 4096 := ⟨q * 1024 + k.val, by have := k.isLt; omega⟩

/-- What 1024 hidden units, of weights `u` and `d`, add to the row. -/
def chunkOf (n : Fin 1024 → EReal) (u d : Fin 1024 → Fin 1024 → EReal) (c : Fin 1024) : EReal :=
  ∑ j : Fin 1024, max (∑ k : Fin 1024, n k * u k j) 0 * max (∑ k : Fin 1024, n k * u k j) 0 * d j c

/-- The part of the sum over the hidden units that run `q` contributes. -/
def chunk (n : Fin 1024 → EReal) (up : Fin 1024 → Fin 4096 → EReal) (dn : Fin 4096 → Fin 1024 → EReal) (q : Nat) (hq : q < 4)
    (c : Fin 1024) : EReal :=
  chunkOf n (fun k j => up k (hid q hq j)) (fun j c => dn (hid q hq j) c) c

/-- A sum over 4096 positions is the sum of its four runs of 1024. -/
theorem sum_four (f : Fin 4096 → EReal) :
    ∑ j : Fin 4096, f j
      = ∑ k : Fin 1024, f (hid 0 (by decide) k) + ∑ k : Fin 1024, f (hid 1 (by decide) k)
        + ∑ k : Fin 1024, f (hid 2 (by decide) k) + ∑ k : Fin 1024, f (hid 3 (by decide) k) := by
  have e := Fin.sum_univ_add (a := 3072) (b := 1024) (f : Fin (3072 + 1024) → EReal)
  have e2 := Fin.sum_univ_add (a := 2048) (b := 1024) (fun i => f (Fin.castAdd 1024 i) : Fin (2048 + 1024) → EReal)
  have e3 := Fin.sum_univ_add (a := 1024) (b := 1024) (fun i => f (Fin.castAdd 1024 (Fin.castAdd 1024 i)) : Fin (1024 + 1024) → EReal)
  refine e.trans ?_
  refine congrArg₂ (· + ·) (e2.trans (congrArg₂ (· + ·) (e3.trans (congrArg₂ (· + ·) ?_ ?_)) ?_)) ?_
  all_goals
    refine Finset.sum_congr rfl fun k _ => congrArg f (Fin.ext ?_)
    simp [hid, Nat.add_comm]

/-- The row after the MLP, its hidden units taken run by run. -/
theorem mlp_chunks (h g : Fin 1024 → EReal) (up : Fin 1024 → Fin 4096 → EReal) (dn : Fin 4096 → Fin 1024 → EReal) (c : Fin 1024) :
    h c + chunk (rms h g) up dn 0 (by decide) c + chunk (rms h g) up dn 1 (by decide) c
        + chunk (rms h g) up dn 2 (by decide) c + chunk (rms h g) up dn 3 (by decide) c
      = mlp h g up dn c := by
  unfold mlp
  rw [sum_four]
  simp only [← add_assoc]
  rfl

end Cert.MlpRow

end
-- ==== Proof.Mlp1Value.lean ====
/-
  THE CLOSING CALL OF THE SECOND LAYER (output projection, squared-ReLU MLP, final norm), its value at `Ideal`: what every
  grid point writes back is its block of one function of the arguments (`final`), the host reference is that function at
  every index (`ref_apply`), and the two runs side by side are the claim (`algebraic`).
-/
module

public import proofs.«01_k».proof.Defs
public import proofs.«01_k».proof.Proof.MlpRow
public import Idealize.ShloMosaic.Lib.Pipeline.ValueKit
public import proofs.«01_k».proof.Proof.Gen.Mlp1Ideal.Value
public import proofs.«01_k».proof.Proof.Gen.Mlp1RefIdeal.Run
@[expose] public section

set_option maxRecDepth 16384

noncomputable section

namespace Cert.Mlp1Value
open Idealize.ShloMosaic Idealize.ShloMosaic.TcCoe Idealize.SL.Sem Cert.Mlp1Ideal Cert.Mlp1Ideal.Gen Cert.MlpRow

section

variable (o : Vec Ideal S512x1024 .bf16) (x : Vec Ideal S512x1024 .f32) (wo : Vec Ideal S1024x1024 .bf16)
  (g : Vec Ideal S1x1024 .f32) (u0 d0 u1 d1 u2 d2 u3 d3 : Vec Ideal S1024x1024 .bf16) (gf : Vec Ideal S1x1024 .f32)

/-- Row `r` of the block after the output projection. -/
abbrev prow (r : Fin 512) : Fin 1024 → EReal :=
  proj (fun k => x (ix2 r k)) (fun k => o (ix2 r k)) (fun k c => wo (ix2 k c))

/-- and normalised. -/
abbrev nrow (r : Fin 512) : Fin 1024 → EReal := rms (prow o x wo r) (fun k => g (ix2 0 k))

/-- The first payload: the projected rows. -/
theorem pay2_apply (r : Fin 512) (c : Fin 1024) : k0_pay2 o x wo (ix2 r c) = prow o x wo r c := by
  pointwise [k0_pay2]
  rfl

/-- The normalised rows. -/
theorem pay3_apply (r : Fin 512) (c : Fin 1024) : k0_pay3 o x wo g (ix2 r c) = nrow o x wo g r c := by
  pointwise [k0_pay3]
  simp only [pay2_apply]
  rfl

/-- The projected rows and the first run of hidden units. -/
theorem pay4_apply (r : Fin 512) (c : Fin 1024) :
    k0_pay4 o x wo g u0 d0 (ix2 r c) = prow o x wo r c + chunkOf (nrow o x wo g r) (fun k j => u0 (ix2 k j)) (fun k j => d0 (ix2 k j)) c := by
  pointwise [k0_pay4]
  simp only [pay2_apply, pay3_apply]
  rfl

/-- The second run of hidden units before the square. -/
theorem pay5_apply (r : Fin 512) (c : Fin 1024) :
    k0_pay5 o x wo g u1 (ix2 r c) = ∑ k : Fin 1024, nrow o x wo g r k * u1 (ix2 k c) := by
  pointwise [k0_pay5]
  simp only [pay3_apply]

/-- The rows after all four runs of hidden units. -/
theorem pay7_apply (r : Fin 512) (c : Fin 1024) :
    k0_pay7 (k0_pay3 o x wo g) (k0_pay4 o x wo g u0 d0) (k0_pay5 o x wo g u1) k0_pay6 d1 u2 d2 u3 d3 (ix2 r c)
      = prow o x wo r c + chunkOf (nrow o x wo g r) (fun k j => u0 (ix2 k j)) (fun k j => d0 (ix2 k j)) c + chunkOf (nrow o x wo g r) (fun k j => u1 (ix2 k j)) (fun k j => d1 (ix2 k j)) c
        + chunkOf (nrow o x wo g r) (fun k j => u2 (ix2 k j)) (fun k j => d2 (ix2 k j)) c + chunkOf (nrow o x wo g r) (fun k j => u3 (ix2 k j)) (fun k j => d3 (ix2 k j)) c := by
  pointwise [k0_pay7, k0_pay6]
  simp only [pay3_apply, pay4_apply, pay5_apply]
  rfl

/-- The rows `v` of values `h` normalised again, `s` holding each row's mean square. -/
theorem pay1_apply (v : FVec Ideal S512x1024 .f32) (h : Fin 512 → Fin 1024 → EReal) (s : FVec Ideal S512x1 .f32)
    (hv : ∀ r c, v (ix2 r c) = h r c)
    (hs : ∀ r, s (ix2 r 0) = Ideal.div (∑ k : Fin 1024, h r k * h r k) (Ideal.ofBits .f32 0x44800000#32) + Ideal.ofBits .f32 0x3727C5AC#32)
    (r : Fin 512) (c : Fin 1024) :
    k0_pay1 v (k0_pay8 gf) s (ix2 r c) = rms (h r) (fun k => gf (ix2 0 k)) c := by
  pointwise [k0_pay1, k0_pay8]
  simp only [hv, hs]
  rfl
end

/-- What the body leaves in the result's staging buffer, read at row `r` and column `c`. -/
theorem out0_7_apply (x0 : Vec Ideal S512x1024 .f32) (x1 : Vec Ideal S512x1024 .bf16) (x2 : Vec Ideal S1024x1024 .bf16)
    (x3 : Vec Ideal S1x1024 .f32) (x4 : Vec Ideal S1024x4096 .bf16) (x5 : Vec Ideal S4096x1024 .bf16) (x6 : Vec Ideal S1x1024 .f32)
    (r : Fin 512) (c : Fin 1024) :
    out0_7 x0 x1 x2 x3 x4 x5 x6 (ix2 r c)
      = rms (mlp (proj (fun k => x0 (ix2 r k)) (fun k => x1 (ix2 r k)) (fun k c => x2 (ix2 k c))) (fun k => x3 (ix2 0 k))
          (fun k j => x4 (ix2 k j)) (fun j c => x5 (ix2 j c))) (fun k => x6 (ix2 0 k)) c := by
  have hz : (![0, 0] : Fin 2 → Nat) = fun _ => 0 := funext fun a => by fin_cases a <;> rfl
  unfold_out out0_7
  rw [View.canon_unit_zero hz]
  have e (r : Fin 512) (c : Fin 1024) := (pay7_apply (View.ld x1 r0_0) (View.ld x0 r0_0) (View.ld x2 r0_1) (View.ld x3 r0_2) (View.ld x4 r0_3) (View.ld x5 r0_4)
    (View.ld x4 r0_5) (View.ld x5 r0_6) (View.ld x4 r0_7) (View.ld x5 r0_8) (View.ld x4 r0_9) (View.ld x5 r0_10) r c).trans
      (show _ = mlp (proj (fun k => x0 (ix2 r k)) (fun k => x1 (ix2 r k)) (fun k c => x2 (ix2 k c))) (fun k => x3 (ix2 0 k))
          (fun k j => x4 (ix2 k j)) (fun j c => x5 (ix2 j c)) c by
        rw [← mlp_chunks]
        pointwise [chunk, prow, nrow, r0_0, r0_1, r0_2, r0_3, r0_4, r0_5, r0_6, r0_7, r0_8, r0_9, r0_10]
        rfl)
  refine (pay1_apply (View.ld x6 r0_2) _ (fun r => mlp (proj (fun k => x0 (ix2 r k)) (fun k => x1 (ix2 r k)) (fun k c => x2 (ix2 k c))) (fun k => x3 (ix2 0 k))
          (fun k j => x4 (ix2 k j)) (fun j c => x5 (ix2 j c))) _ e (fun r => ?_) r c).trans ?_
  · pointwise [k0_pay9]
    simp only [e]
  · pointwise [r0_2]

/-- The result as a function of the argument arrays, row by row. -/
def res (x : Fin 32768 → Fin 1024 → EReal) (o : Fin 32768 → Fin 1024 → EReal) (wo : Fin 1024 → Fin 1024 → EReal)
    (g : Fin 1024 → EReal) (up : Fin 1024 → Fin 4096 → EReal) (dn : Fin 4096 → Fin 1024 → EReal) (gf : Fin 1024 → EReal)
    (r : Fin 32768) (l : Fin 1024) : EReal :=
  rms (mlp (proj (x r) (o r) wo) g up dn) gf l

variable (m : (ℓ : Loc nD τ sig) → Buf (Elt Ideal) ℓ)

/-- The kernel's result array. -/
def resK (c : Dev nD) : Buf (Elt Ideal) ((c : Thread nD τ).loc main_v5) := fun (i : S32768x1024.Idx) =>
  res (fun r k => m ((c : Thread nD τ).loc main_arg0) (ix2 r k)) (fun r k => m ((c : Thread nD τ).loc main_arg1) (ix2 r k))
    (fun k j => m ((c : Thread nD τ).loc main_arg2) (ix2 k j)) (fun k => m ((c : Thread nD τ).loc main_arg3) (ix1 k))
    (fun k j => m ((c : Thread nD τ).loc main_arg4) (ix2 k j)) (fun k j => m ((c : Thread nD τ).loc main_arg5) (ix2 k j))
    (fun k => m ((c : Thread nD τ).loc main_arg6) (ix1 k)) (i 0) (i 1)

/-- Where the windows' blocks lie: the row windows at block `t`, the weights whole. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- After the run the result array is `resK`. -/
theorem final (c : Dev nD) : (dats m 0 c).arrAt 7 cfg0.N = resK m c := by
  refine (dats m 0 c).arrAt_eq_of_covers 7 _ (by decide +kernel) fun t hf y => ?_
  blk_simp
  rw [after0_7]
  idx_vars y
  refine (out0_7_apply _ _ _ _ _ _ _ _ _).trans ?_
  unfold resK res
  blk_point [iblk, V, idx t]

/-- The host reference at an index. -/
theorem ref_apply (m' : (ℓ : Loc Cert.Mlp1RefIdeal.nD Cert.Mlp1RefIdeal.τ Cert.Mlp1RefIdeal.sig) → Buf (Elt Ideal) ℓ)
    (c : Dev Cert.Mlp1RefIdeal.nD) (r : Fin 32768) (l : Fin 1024) :
    Cert.Mlp1RefIdeal.Value.res_out0 m' c (ix2 r l)
      = res (fun r k => m' ((c.tc : Thread Cert.Mlp1RefIdeal.nD Cert.Mlp1RefIdeal.τ).loc Cert.Mlp1RefIdeal.main_arg0) (ix2 r k))
          (fun r k => m' ((c.tc : Thread Cert.Mlp1RefIdeal.nD Cert.Mlp1RefIdeal.τ).loc Cert.Mlp1RefIdeal.main_arg1) (ix2 r k))
          (fun k j => m' ((c.tc : Thread Cert.Mlp1RefIdeal.nD Cert.Mlp1RefIdeal.τ).loc Cert.Mlp1RefIdeal.main_arg2) (ix2 k j))
          (fun k => m' ((c.tc : Thread Cert.Mlp1RefIdeal.nD Cert.Mlp1RefIdeal.τ).loc Cert.Mlp1RefIdeal.main_arg3) (ix1 k))
          (fun k j => m' ((c.tc : Thread Cert.Mlp1RefIdeal.nD Cert.Mlp1RefIdeal.τ).loc Cert.Mlp1RefIdeal.main_arg4) (ix2 k j))
          (fun k j => m' ((c.tc : Thread Cert.Mlp1RefIdeal.nD Cert.Mlp1RefIdeal.τ).loc Cert.Mlp1RefIdeal.main_arg5) (ix2 k j))
          (fun k => m' ((c.tc : Thread Cert.Mlp1RefIdeal.nD Cert.Mlp1RefIdeal.τ).loc Cert.Mlp1RefIdeal.main_arg6) (ix1 k)) r l := by
  pointwise [Cert.Mlp1RefIdeal.Value.res_out0, Cert.Mlp1RefIdeal.Value.res_main_v33]
  rfl

/-- The reference leaves its arguments and its counters as they were. -/
theorem frame_ref : Cert.quiescent_Mlp1RefIdeal := fun m' ρ _ =>
  (θ_run Cert.Mlp1RefIdeal.defs _ _).mono (fun r h => ⟨fun c => (h c).2, sem_eq_zero_of_no_sems (by decide) r.2⟩)
    (Cert.Mlp1RefIdeal.Value.run (F := Ideal) m' ρ)

/-- Both runs end with the result array at the same function of the arguments. -/
theorem algebraic : Cert.algebraic_Mlp1Ideal_Mlp1RefIdeal := by
  intro m ρ m' ρ' _ hagree
  refine ⟨fun c => resK m c, ?_, ?_⟩
  · exact (θ_run Cert.Mlp1Ideal.defs _ _).mono (fun _ h c => ⟨(h c).1.trans (final m c), (h c).2⟩)
      (Cert.Mlp1Ideal.Value.run_blocks (F := Ideal) m ρ)
  · refine (θ_run Cert.Mlp1RefIdeal.defs _ _).mono (fun _ h c => ⟨(h c).1.trans ?_, (h c).2⟩)
      (Cert.Mlp1RefIdeal.Value.run (F := Ideal) m' ρ')
    obtain ⟨h0, h1, h2, h3, h4, h5, h6⟩ := hagree c
    funext i
    obtain ⟨r, l, rfl⟩ : ∃ (r : Fin 32768) (l : Fin 1024), i = ix2 r l := ⟨i 0, i 1, eq_ix2 i⟩
    refine (ref_apply m' c r l).trans ?_
    rw [h0, h1, h2, h3, h4, h5, h6]
    rfl

end Cert.Mlp1Value

end
-- ==== Proof.Mlp0Value.lean ====
/-
  THE CLOSING CALL OF THE FIRST LAYER (output projection of the two halves side by side, squared-ReLU MLP), its value at
  `Ideal`: what every grid point writes back is its block of one function of the arguments (`final`), the host reference is
  that function at every index (`ref_apply`), and the two runs side by side are the claim (`algebraic`).
-/
module

public import proofs.«01_k».proof.Defs
public import proofs.«01_k».proof.Proof.MlpRow
public import Idealize.ShloMosaic.Lib.Pipeline.ValueKit
public import proofs.«01_k».proof.Proof.Gen.Mlp0Ideal.Value
public import proofs.«01_k».proof.Proof.Gen.Mlp0RefIdeal.Run

@[expose] public section

set_option maxRecDepth 16384

noncomputable section

namespace Cert.Mlp0Value
open Idealize.ShloMosaic Idealize.ShloMosaic.TcCoe Idealize.SL.Sem Cert.Mlp0Ideal Cert.Mlp0Ideal.Gen Cert.MlpRow

section

variable (a b : Vec Ideal S512x512 .bf16) (x : Vec Ideal S512x1024 .f32) (wo : Vec Ideal S1024x1024 .bf16)
  (g : Vec Ideal S1x1024 .f32) (u0 d0 u1 d1 u2 d2 u3 d3 : Vec Ideal S1024x1024 .bf16)

/-- Row `r` of the block after the output projection. -/
abbrev prow (r : Fin 512) : Fin 1024 → EReal :=
  proj2 (fun k => x (ix2 r k)) (fun k => a (ix2 r k)) (fun k => b (ix2 r k)) (fun k c => wo (ix2 k c))

/-- and normalised. -/
abbrev nrow (r : Fin 512) : Fin 1024 → EReal := rms (prow a b x wo r) (fun k => g (ix2 0 k))

/-- The first payload: the projected rows. -/
theorem pay2_apply (r : Fin 512) (c : Fin 1024) : k0_pay2 a b x wo (ix2 r c) = prow a b x wo r c := by
  pointwise [k0_pay2]
  rfl

/-- The normalised rows. -/
theorem pay3_apply (r : Fin 512) (c : Fin 1024) : k0_pay3 a b x wo g (ix2 r c) = nrow a b x wo g r c := by
  pointwise [k0_pay3]
  simp only [pay2_apply]
  rfl

/-- The projected rows and the first run of hidden units. -/
theorem pay4_apply (r : Fin 512) (c : Fin 1024) :
    k0_pay4 a b x wo g u0 d0 (ix2 r c)
      = prow a b x wo r c + chunkOf (nrow a b x wo g r) (fun k j => u0 (ix2 k j)) (fun k j => d0 (ix2 k j)) c := by
  pointwise [k0_pay4]
  simp only [pay2_apply, pay3_apply]
  rfl

/-- The rows after all four runs of hidden units. -/
theorem pay1_apply (r : Fin 512) (c : Fin 1024) :
    k0_pay1 (k0_pay3 a b x wo g) (k0_pay4 a b x wo g u0 d0) (k0_pay5 u1) d1 u2 d2 u3 d3 (ix2 r c)
      = prow a b x wo r c + chunkOf (nrow a b x wo g r) (fun k j => u0 (ix2 k j)) (fun k j => d0 (ix2 k j)) c
        + chunkOf (nrow a b x wo g r) (fun k j => u1 (ix2 k j)) (fun k j => d1 (ix2 k j)) c
        + chunkOf (nrow a b x wo g r) (fun k j => u2 (ix2 k j)) (fun k j => d2 (ix2 k j)) c
        + chunkOf (nrow a b x wo g r) (fun k j => u3 (ix2 k j)) (fun k j => d3 (ix2 k j)) c := by
  pointwise [k0_pay1, k0_pay5]
  simp only [pay3_apply, pay4_apply]
  rfl

end

/-- What the body leaves in the result's staging buffer, read at row `r` and column `c`. -/
theorem out0_7_apply (x0 : Vec Ideal S512x1024 .f32) (x1 x2 : Vec Ideal S512x512 .bf16) (x3 : Vec Ideal S1024x1024 .bf16)
    (x4 : Vec Ideal S1x1024 .f32) (x5 : Vec Ideal S1024x4096 .bf16) (x6 : Vec Ideal S4096x1024 .bf16)
    (r : Fin 512) (c : Fin 1024) :
    out0_7 x0 x1 x2 x3 x4 x5 x6 (ix2 r c)
      = mlp (proj2 (fun k => x0 (ix2 r k)) (fun k => x1 (ix2 r k)) (fun k => x2 (ix2 r k)) (fun k c => x3 (ix2 k c)))
          (fun k => x4 (ix2 0 k)) (fun k j => x5 (ix2 k j)) (fun j c => x6 (ix2 j c)) c := by
  have hz : (![0, 0] : Fin 2 → Nat) = fun _ => 0 := funext fun a => by fin_cases a <;> rfl
  unfold out0_7
  rw [View.canon_unit_zero hz]
  refine (pay1_apply _ _ _ _ _ _ _ _ _ _ _ _ _ r c).trans ?_
  rw [← mlp_chunks]
  pointwise [chunk, prow, nrow, r0_0, r0_1, r0_2, r0_3, r0_4, r0_5, r0_6, r0_7, r0_8, r0_9, r0_10, r0_11]
  rfl

/-- The result as a function of the argument arrays, row by row. -/
def res (x : Fin 32768 → Fin 1024 → EReal) (a b : Fin 32768 → Fin 512 → EReal) (wo : Fin 1024 → Fin 1024 → EReal)
    (g : Fin 1024 → EReal) (up : Fin 1024 → Fin 4096 → EReal) (dn : Fin 4096 → Fin 1024 → EReal)
    (r : Fin 32768) (l : Fin 1024) : EReal :=
  mlp (proj2 (x r) (a r) (b r) wo) g up dn l

variable (m : (ℓ : Loc nD τ sig) → Buf (Elt Ideal) ℓ)

/-- The kernel's result array. -/
def resK (c : Dev nD) : Buf (Elt Ideal) ((c : Thread nD τ).loc main_v4) := fun (i : S32768x1024.Idx) =>
  res (fun r k => m ((c : Thread nD τ).loc main_arg0) (ix2 r k)) (fun r k => m ((c : Thread nD τ).loc main_arg1) (ix2 r k))
    (fun r k => m ((c : Thread nD τ).loc main_arg2) (ix2 r k)) (fun k j => m ((c : Thread nD τ).loc main_arg3) (ix2 k j))
    (fun k => m ((c : Thread nD τ).loc main_arg4) (ix1 k)) (fun k j => m ((c : Thread nD τ).loc main_arg5) (ix2 k j))
    (fun k j => m ((c : Thread nD τ).loc main_arg6) (ix2 k j)) (i 0) (i 1)

/-- Where the windows' blocks lie: the row windows at block `t`, the weights whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- After the run the result array is `resK`. -/
theorem final (c : Dev nD) : (dats m 0 c).arrAt 7 cfg0.N = resK m c := by
  refine (dats m 0 c).arrAt_eq_of_covers 7 _ (by decide +kernel) fun t hf y => ?_
  blk_simp
  rw [after0_7]
  idx_vars y
  refine (out0_7_apply _ _ _ _ _ _ _ _ _).trans ?_
  unfold resK res
  blk_point [iblk, V, idx t]

/-- The host reference at an index. -/
theorem ref_apply (m' : (ℓ : Loc Cert.Mlp0RefIdeal.nD Cert.Mlp0RefIdeal.τ Cert.Mlp0RefIdeal.sig) → Buf (Elt Ideal) ℓ)
    (c : Dev Cert.Mlp0RefIdeal.nD) (r : Fin 32768) (l : Fin 1024) :
    Cert.Mlp0RefIdeal.Value.res_out0 m' c (ix2 r l)
      = res (fun r k => m' ((c.tc : Thread Cert.Mlp0RefIdeal.nD Cert.Mlp0RefIdeal.τ).loc Cert.Mlp0RefIdeal.main_arg0) (ix2 r k))
          (fun r k => m' ((c.tc : Thread Cert.Mlp0RefIdeal.nD Cert.Mlp0RefIdeal.τ).loc Cert.Mlp0RefIdeal.main_arg1) (ix2 r k))
          (fun r k => m' ((c.tc : Thread Cert.Mlp0RefIdeal.nD Cert.Mlp0RefIdeal.τ).loc Cert.Mlp0RefIdeal.main_arg2) (ix2 r k))
          (fun k j => m' ((c.tc : Thread Cert.Mlp0RefIdeal.nD Cert.Mlp0RefIdeal.τ).loc Cert.Mlp0RefIdeal.main_arg3) (ix2 k j))
          (fun k => m' ((c.tc : Thread Cert.Mlp0RefIdeal.nD Cert.Mlp0RefIdeal.τ).loc Cert.Mlp0RefIdeal.main_arg4) (ix1 k))
          (fun k j => m' ((c.tc : Thread Cert.Mlp0RefIdeal.nD Cert.Mlp0RefIdeal.τ).loc Cert.Mlp0RefIdeal.main_arg5) (ix2 k j))
          (fun k j => m' ((c.tc : Thread Cert.Mlp0RefIdeal.nD Cert.Mlp0RefIdeal.τ).loc Cert.Mlp0RefIdeal.main_arg6) (ix2 k j)) r l := by
  pointwise [Cert.Mlp0RefIdeal.Value.res_out0, Cert.Mlp0RefIdeal.Value.res_main_v22]
  rfl

/-- The reference leaves its arguments and its counters as they were. -/
theorem frame_ref : Cert.quiescent_Mlp0RefIdeal := fun m' ρ _ =>
  (θ_run Cert.Mlp0RefIdeal.defs _ _).mono (fun r h => ⟨fun c => (h c).2, sem_eq_zero_of_no_sems (by decide) r.2⟩)
    (Cert.Mlp0RefIdeal.Value.run (F := Ideal) m' ρ)

/-- Both runs end with the result array at the same function of the arguments. -/
theorem algebraic : Cert.algebraic_Mlp0Ideal_Mlp0RefIdeal := by
  intro m ρ m' ρ' _ hagree
  refine ⟨fun c => resK m c, ?_, ?_⟩
  · exact (θ_run Cert.Mlp0Ideal.defs _ _).mono (fun _ h c => ⟨(h c).1.trans (final m c), (h c).2⟩)
      (Cert.Mlp0Ideal.Value.run_blocks (F := Ideal) m ρ)
  · refine (θ_run Cert.Mlp0RefIdeal.defs _ _).mono (fun _ h c => ⟨(h c).1.trans ?_, (h c).2⟩)
      (Cert.Mlp0RefIdeal.Value.run (F := Ideal) m' ρ')
    obtain ⟨h0, h1, h2, h3, h4, h5, h6⟩ := hagree c
    funext i
    obtain ⟨r, l, rfl⟩ : ∃ (r : Fin 32768) (l : Fin 1024), i = ix2 r l := ⟨i 0, i 1, eq_ix2 i⟩
    refine (ref_apply m' c r l).trans ?_
    rw [h0, h1, h2, h3, h4, h5, h6]
    rfl

end Cert.Mlp0Value

end
-- ==== Proof.QkvRow.lean ====
/-
  ONE ROW OF THE QUERY, KEY AND VALUE PROJECTION over the extended reals: the normalised row against the packed weight, and the
  rotation of the first sixteen of a head's sixty-four columns by the row's position.
-/
module

public import proofs.«01_k».proof.Proof.MlpRow

@[expose] public section

noncomputable section

namespace Cert.QkvRow

open Idealize.ShloMosaic Cert.MlpRow

/-- The angle of frequency `f` at position `p`. -/
def angle (p f : Nat) : EReal :=
  FloatOps.sitofp (F := Ideal) (w := 32) FTy.f32 (BitVec.ofNat 32 p) * Ideal.pow (Ideal.ofBits FTy.f32 0x48F42400#32)
    (-Ideal.div (Ideal.ofBits FTy.f32 0x40000000#32 * FloatOps.sitofp (F := Ideal) (w := 32) FTy.f32 (BitVec.ofNat 32 f)) (Ideal.ofBits FTy.f32 0x41800000#32))

/-- Column `d` of the head `u` at position `p`: of the first sixteen columns, column `d` and column `d + 8` are turned by the
    position's angle of frequency `d`; the others stay. -/
def turn (p : Nat) (u : Fin 64 → EReal) (d : Fin 64) : EReal :=
  if h : d.val < 8 then u d * Ideal.cos (angle p d) - u ⟨d.val + 8, by omega⟩ * Ideal.sin (angle p d)
  else if d.val < 16 then u d * Ideal.cos (angle p (d.val - 8)) + u ⟨d.val - 8, by omega⟩ * Ideal.sin (angle p (d.val - 8))
  else u d

/-- Entry `n` of the packed projection of a row. -/
def packed (x g : Fin 1024 → EReal) (w : Fin 1024 → Fin 1536 → EReal) (n : Fin 1536) : EReal := ∑ k : Fin 1024, rms x g k * w k n

/-- The head that starts at column `o`. -/
def head (v : Fin 1536 → EReal) (o : Nat) (ho : o ≤ 1472) (e : Fin 64) : EReal := v ⟨o + e.val, by omega⟩

end Cert.QkvRow

end
-- ==== Proof.QkvTile.lean ====
/-
  ONE TILE OF THE QKV CALL: 128 columns (two heads) of the projected rows, multiplied by the cosine row, with the columns eight
  before and eight after multiplied by the two sine rows, are the two heads turned by the row's position (`spun_apply`); the
  three rows of the table are what that asks for (`cos_blk`, `lo_blk`, `hi_blk`).
-/
module

public import proofs.«01_k».proof.Proof.QkvRow
public import Idealize.ShloMosaic.Lib.Pipeline.ValueKit
public import proofs.«01_k».proof.Proof.Gen.QkvIdeal.Value
@[expose] public section

set_option maxRecDepth 16384

noncomputable section

namespace Cert.QkvTile
open Idealize.ShloMosaic Idealize.ShloMosaic.TcCoe Idealize.SL.Sem Cert.QkvIdeal Cert.QkvIdeal.Gen Cert.MlpRow Cert.QkvRow

/-- The cosine row at position `p`, column `d` of a head. -/
def cosAt (p d : Nat) : EReal := if d < 8 then Ideal.cos (angle p d) else if d < 16 then Ideal.cos (angle p (d - 8)) else 1

/-- The sine row that takes the column eight before. -/
def loAt (p d : Nat) : EReal := if d < 8 then 0 else if d < 16 then Ideal.sin (angle p (d - 8)) else 0

/-- The sine row that takes the column eight after. -/
def hiAt (p d : Nat) : EReal := if d < 8 then -Ideal.sin (angle p d) else 0

/-- A tile with its neighbours eight columns before and after. -/
def spun (s c lo hi : FVec Ideal S512x128 .f32) : FVec Ideal S512x128 .f32 :=
  addf (addf (mulf s c) (mulf (dynamicRotate 1 8#32 none s rotates_S512x128_d1) lo)) (mulf (dynamicRotate 1 120#32 none s rotates_S512x128_d1) hi)

theorem spun_apply (s c lo hi : FVec Ideal S512x128 .f32) (p : Nat) (r : Fin 512) (l : Fin 128)
    (hc : c (ix2 r l) = cosAt p (l.val % 64)) (hl : lo (ix2 r l) = loAt p (l.val % 64)) (hh : hi (ix2 r l) = hiAt p (l.val % 64)) :
    spun s c lo hi (ix2 r l) = turn p (fun e => s (ix2 r ⟨l.val / 64 * 64 + e.val, by omega⟩)) ⟨l.val % 64, by omega⟩ := by
  pointwise [spun]
  rw [hc, hl, hh]
  unfold turn cosAt loAt hiAt
  have he : l.val / 64 * 64 + l.val % 64 = l.val := by omega
  by_cases h1 : l.val % 64 < 8
  · simp only [dif_pos h1, if_pos h1, mul_zero, add_zero, mul_neg, he, ← sub_eq_add_neg]
    congr 4
    apply Fin.ext
    simp
    omega
  · by_cases h2 : l.val % 64 < 16
    · simp only [dif_neg h1, if_neg h1, if_pos h2, mul_zero, add_zero, he]
      congr 4
      apply Fin.ext
      simp
      omega
    · simp only [dif_neg h1, if_neg h1, if_neg h2, mul_zero, add_zero, mul_one, he]

variable (m : (ℓ : Loc nD τ sig) → Buf (Elt Ideal) ℓ)

theorem lt_N (t : Fin cfg0.N) : t.val < 64 := t.isLt

/-- Where the windows' blocks lie. -/
theorem idx : ∀ t : Fin cfg0.N, win0_0.index t = ![t.val, 0] ∧ win0_1.index t = ![0, 0] ∧ win0_2.index t = ![0, 0]
    ∧ win0_3.index t = ![0, t.val % 8, 0] ∧ win0_4.index t = ![t.val, 0] ∧ win0_5.index t = ![t.val, 0] ∧ win0_6.index t = ![t.val, 0] :=
  (by decide +kernel : ∀ t : Fin grid0.N, _)

/-- The angles by position and frequency. -/
def angles : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (Host.negf (Host.divf (addf (broadcastInDim S8 ![] bcast_S_S8 (constant S_ .f32 0x00000000#32))
            (mulf (broadcastInDim S8 ![] bcast_S_S8 (constant S_ .f32 0x40000000#32)) (sitofp .f32 (iotaInDim S8 32 0))))
          (broadcastInDim S8 ![] bcast_S_S8 (constant S_ .f32 0x41800000#32)))))))

theorem angles_apply (p : Fin 4096) (f : Fin 8) : angles (ix2 p f) = angle p f := by
  pointwise [angles, angle]

/-- One row of the table: eight columns, eight columns and forty-eight, for two heads. -/
def line (a b : FVec Ideal S4096x8 .f32) (e : FVec Ideal S4096x48 .f32) : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x8, a⟩, ⟨S4096x8, b⟩, ⟨S4096x48, e⟩] concatenates_S4096x8_S4096x8_S4096x48_S4096x64_d1) shapeCasts_S4096x64_S1x4096x1x64))
    shapeCasts_S1x4096x2x64_S4096x128

theorem line_apply (a b : FVec Ideal S4096x8 .f32) (e : FVec Ideal S4096x48 .f32) (p : Fin 4096) (l : Fin 128) :
    line a b e (ix2 p l) = if h : l.val % 64 < 8 then a (ix2 p ⟨l.val % 64, h⟩) else if h' : l.val % 64 < 16 then b (ix2 p ⟨l.val % 64 - 8, by omega⟩)
      else e (ix2 p ⟨l.val % 64 - 16, by omega⟩) := by
  pointwise [line]
  by_cases h1 : l.val % 64 < 8
  · simp only [dif_pos h1]
  · by_cases h2 : l.val % 64 < 16
    · simp only [dif_neg h1, dif_pos h2, dif_pos (show l.val % 64 - 8 < 8 by omega)]
    · simp only [dif_neg h1, dif_neg h2, dif_neg (show ¬ l.val % 64 - 8 < 8 by omega), Nat.sub_sub]

/-- The table: the cosine row and the two sine rows. -/
def table : FVec Ideal S3x4096x128 .f32 :=
  concatenate S3x4096x128 0
    [⟨S1x4096x128, broadcastInDim S1x4096x128 ![1, 2] bcast_S4096x128_S1x4096x128_1_2 (line (Host.cos angles) (Host.cos angles) (broadcastInDim S4096x48 ![] bcast_S_S4096x48 (constant S_ .f32 0x3F800000#32)))⟩,
      ⟨S1x4096x128, broadcastInDim S1x4096x128 ![1, 2] bcast_S4096x128_S1x4096x128_1_2 (line (broadcastInDim S4096x8 ![] bcast_S_S4096x8 (constant S_ .f32 0x00000000#32)) (Host.sin angles) (broadcastInDim S4096x48 ![] bcast_S_S4096x48 (constant S_ .f32 0x00000000#32)))⟩,
      ⟨S1x4096x128, broadcastInDim S1x4096x128 ![1, 2] bcast_S4096x128_S1x4096x128_1_2 (line (Host.negf (Host.sin angles)) (broadcastInDim S4096x8 ![] bcast_S_S4096x8 (constant S_ .f32 0x00000000#32)) (broadcastInDim S4096x48 ![] bcast_S_S4096x48 (constant S_ .f32 0x00000000#32)))⟩]
    concatenates_S1x4096x128_S1x4096x128_S1x4096x128_S3x4096x128_d0

theorem V_table (c : Dev nD) : V m c main_v39 = table := by
  unfold_abbrev_sides
  after_results_simp
  rfl

theorem table_cos (p : Fin 4096) (l : Fin 128) : table (ix3 0 p l) = cosAt p (l.val % 64) := by
  pointwise [table, line_apply, angles_apply]
  unfold cosAt
  split_ifs <;> rfl

theorem table_lo (p : Fin 4096) (l : Fin 128) : table (ix3 1 p l) = loAt p (l.val % 64) := by
  pointwise [table, line_apply, angles_apply]
  unfold loAt
  split_ifs <;> rfl

theorem table_hi (p : Fin 4096) (l : Fin 128) : table (ix3 2 p l) = hiAt p (l.val % 64) := by
  pointwise [table, line_apply, angles_apply]
  unfold hiAt
  split_ifs <;> rfl

/-- What grid point `t` reads of the table. -/
theorem table_blk (c : Dev nD) (t : Fin cfg0.N) (k : Fin 3) (R : Fin 512) (l : Fin 128) :
    iblk m c 3 t (ix3 k R l) = table (ix3 k ⟨t.val % 8 * 512 + R.val, by omega⟩ l) := by
  rw [← V_table m c]
  generalize hT : V m c main_v39 = T
  unfold iblk
  rw [show V m c (Pipeline.arrRef spec0 3) = T from hT]
  blk_point [idx t]

end Cert.QkvTile

end
-- ==== Proof.QkvRef.lean ====
/-
  THE REFERENCE OF THE QKV CALL read at an index: the normalised rows against the packed weight, and the rotation of the first
  sixteen of every head's sixty-four columns.
-/
module

public import proofs.«01_k».proof.Proof.QkvRow
public import proofs.«01_k».proof.Proof.Gen.QkvRefIdeal.Run
@[expose] public section

set_option maxRecDepth 16384

noncomputable section

namespace Cert.QkvRef
open Idealize.ShloMosaic Idealize.ShloMosaic.TcCoe Idealize.SL.Sem Cert.QkvRefIdeal Cert.QkvRefIdeal.Gen Cert.MlpRow Cert.QkvRow

/-- The angles by position and frequency. -/
def angles : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (Host.negf (Host.divf (addf (broadcastInDim S8 ![] bcast_S_S8 (constant S_ .f32 0x00000000#32))
            (mulf (broadcastInDim S8 ![] bcast_S_S8 (constant S_ .f32 0x40000000#32)) (sitofp .f32 (iotaInDim S8 32 0))))
          (broadcastInDim S8 ![] bcast_S_S8 (constant S_ .f32 0x41800000#32)))))))

section
variable (x : FVec Ideal S32768x1024 .f32) (g : FVec Ideal S1024 .f32) (w : FVec Ideal S1024x1536 .f32)

/-- The normalised rows. -/
def normed : FVec Ideal S32768x1024 .f32 :=
  mulf (mulf x (broadcastInDim S32768x1024 ![0, 1] bcast_S32768x1_S32768x1024_0_1 (Host.rsqrt (addf
      (Host.divf (broadcastInDim S32768x1 ![0] bcast_S32768_S32768x1_0 (Host.reduceAdd (mulf x x) (constant S_ .f32 0x00000000#32) reducesTo_S32768x1024_S32768_d1 h_S_))
        (broadcastInDim S32768x1 ![] bcast_S_S32768x1 (constant S_ .f32 0x44800000#32)))
      (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 g))

/-- The packed projection. -/
def packed : FVec Ideal S32768x1536 .f32 := Host.dotGeneral dot_S32768x1024_S1024x1536_S32768x1536_1_0_0_1_n_n none (normed x g) w

end

/-- Cosines along the first eight columns of a head. -/
def cosRow : FVec Ideal S1x4096x1x8 .f32 := broadcastInDim S1x4096x1x8 ![1, 3] bcast_S4096x8_S1x4096x1x8_1_3 (Host.cos angles)

/-- Sines likewise. -/
def sinRow : FVec Ideal S1x4096x1x8 .f32 := broadcastInDim S1x4096x1x8 ![1, 3] bcast_S4096x8_S1x4096x1x8_1_3 (Host.sin angles)

section
variable (u : FVec Ideal S8x4096x16x64 .f32)

/-- Columns 0 to 7 of a query head. -/
def loQ : FVec Ideal S8x4096x16x8 .f32 :=
  extractStridedSlice S8x4096x16x8 ![0, 0, 0, 0] (extractStridedSlice S8x4096x16x16 ![0, 0, 0, 0] u slices_S8x4096x16x64_S8x4096x16x16_0_0_0_0) slices_S8x4096x16x16_S8x4096x16x8_0_0_0_0

/-- Columns 8 to 15 of a query head. -/
def hiQ : FVec Ideal S8x4096x16x8 .f32 :=
  extractStridedSlice S8x4096x16x8 ![0, 0, 0, 8] (extractStridedSlice S8x4096x16x16 ![0, 0, 0, 0] u slices_S8x4096x16x64_S8x4096x16x16_0_0_0_0) slices_S8x4096x16x16_S8x4096x16x8_0_0_0_8

/-- One row of the table for every batch and query head. -/
def wideQ (t : FVec Ideal S1x4096x1x8 .f32) : FVec Ideal S8x4096x16x8 .f32 := broadcastInDim S8x4096x16x8 ![0, 1, 2, 3] bcast_S1x4096x1x8_S8x4096x16x8_0_1_2_3 t

/-- The query heads with their first sixteen columns rotated. -/
def rotQ : FVec Ideal S8x4096x16x64 .f32 :=
  concatenate S8x4096x16x64 3 [⟨S8x4096x16x16, concatenate S8x4096x16x16 3
      [⟨S8x4096x16x8, subf (mulf (loQ u) (wideQ cosRow)) (mulf (hiQ u) (wideQ sinRow))⟩, ⟨S8x4096x16x8, addf (mulf (hiQ u) (wideQ cosRow)) (mulf (loQ u) (wideQ sinRow))⟩]
      concatenates_S8x4096x16x8_S8x4096x16x8_S8x4096x16x16_d3⟩,
    ⟨S8x4096x16x48, extractStridedSlice S8x4096x16x48 ![0, 0, 0, 16] u slices_S8x4096x16x64_S8x4096x16x48_0_0_0_16⟩]
    concatenates_S8x4096x16x16_S8x4096x16x48_S8x4096x16x64_d3

end

section
variable (u : FVec Ideal S8x4096x4x64 .f32)

/-- Columns 0 to 7 of a key head. -/
def loK : FVec Ideal S8x4096x4x8 .f32 :=
  extractStridedSlice S8x4096x4x8 ![0, 0, 0, 0] (extractStridedSlice S8x4096x4x16 ![0, 0, 0, 0] u slices_S8x4096x4x64_S8x4096x4x16_0_0_0_0) slices_S8x4096x4x16_S8x4096x4x8_0_0_0_0

/-- Columns 8 to 15 of a key head. -/
def hiK : FVec Ideal S8x4096x4x8 .f32 :=
  extractStridedSlice S8x4096x4x8 ![0, 0, 0, 8] (extractStridedSlice S8x4096x4x16 ![0, 0, 0, 0] u slices_S8x4096x4x64_S8x4096x4x16_0_0_0_0) slices_S8x4096x4x16_S8x4096x4x8_0_0_0_8

/-- One row of the table for every batch and key head. -/
def wideK (t : FVec Ideal S1x4096x1x8 .f32) : FVec Ideal S8x4096x4x8 .f32 := broadcastInDim S8x4096x4x8 ![0, 1, 2, 3] bcast_S1x4096x1x8_S8x4096x4x8_0_1_2_3 t

/-- The key heads with their first sixteen columns rotated. -/
def rotK : FVec Ideal S8x4096x4x64 .f32 :=
  concatenate S8x4096x4x64 3 [⟨S8x4096x4x16, concatenate S8x4096x4x16 3
      [⟨S8x4096x4x8, subf (mulf (loK u) (wideK cosRow)) (mulf (hiK u) (wideK sinRow))⟩, ⟨S8x4096x4x8, addf (mulf (hiK u) (wideK cosRow)) (mulf (loK u) (wideK sinRow))⟩]
      concatenates_S8x4096x4x8_S8x4096x4x8_S8x4096x4x16_d3⟩,
    ⟨S8x4096x4x48, extractStridedSlice S8x4096x4x48 ![0, 0, 0, 16] u slices_S8x4096x4x64_S8x4096x4x48_0_0_0_16⟩]
    concatenates_S8x4096x4x16_S8x4096x4x48_S8x4096x4x64_d3

end

section
variable (x : FVec Ideal S32768x1024 .f32) (g : FVec Ideal S1024 .f32) (w : FVec Ideal S1024x1536 .f32)

/-- The rotated queries, scaled. -/
def queries : FVec Ideal S32768x1024 .bf16 :=
  truncf .bf16 (shapeCast S32768x1024 (mulf (rotQ (shapeCast S8x4096x16x64 (extractStridedSlice S32768x1024 ![0, 0] (packed x g w) slices_S32768x1536_S32768x1024_0_0) shapeCasts_S32768x1024_S8x4096x16x64))
    (broadcastInDim S8x4096x16x64 ![] bcast_S_S8x4096x16x64 (Host.divf (constant S_ .f32 0x3E000000#32) (Host.log (constant S_ .f32 0x40000000#32)))))
    shapeCasts_S8x4096x16x64_S32768x1024) bitsLt_bf16_f32

/-- The rotated keys. -/
def keys : FVec Ideal S32768x256 .bf16 :=
  truncf .bf16 (shapeCast S32768x256 (rotK (shapeCast S8x4096x4x64 (extractStridedSlice S32768x256 ![0, 1024] (packed x g w) slices_S32768x1536_S32768x256_0_1024) shapeCasts_S32768x256_S8x4096x4x64))
    shapeCasts_S8x4096x4x64_S32768x256) bitsLt_bf16_f32

/-- The values. -/
def values : FVec Ideal S32768x256 .bf16 :=
  truncf .bf16 (extractStridedSlice S32768x256 ![0, 1280] (packed x g w) slices_S32768x1536_S32768x256_0_1280) bitsLt_bf16_f32

end

section
variable (m : (ℓ : Loc nD τ sig) → Buf (Elt Ideal) ℓ) (c : Dev nD)

theorem queries_eq : Value.res_main_v96 m c = queries (m ((c.tc : Thread nD τ).loc main_arg0)) (m ((c.tc : Thread nD τ).loc main_arg1)) (m ((c.tc : Thread nD τ).loc main_arg2)) := rfl

theorem keys_eq : Value.res_main_v98 m c = keys (m ((c.tc : Thread nD τ).loc main_arg0)) (m ((c.tc : Thread nD τ).loc main_arg1)) (m ((c.tc : Thread nD τ).loc main_arg2)) := rfl

end

theorem angles_apply (p : Fin 4096) (f : Fin 8) : angles (ix2 p f) = angle p f := by
  pointwise [angles, angle]

theorem rotQ_apply (u : FVec Ideal S8x4096x16x64 .f32) (b : Fin 8) (p : Fin 4096) (h : Fin 16) (d : Fin 64) :
    rotQ u (ix4 b p h d) = turn p (fun e => u (ix4 b p h e)) d := by
  pointwise [rotQ, loQ, hiQ, wideQ, cosRow, sinRow]
  simp only [angles_apply]
  unfold turn
  by_cases h1 : d.val < 8
  · simp only [dif_pos h1, dif_pos (show d.val < 16 by omega), Nat.add_comm 8]
  · by_cases h2 : d.val < 16
    · simp only [dif_neg h1, dif_pos h2, if_pos h2, show 8 + (d.val - 8) = d.val by omega]
    · simp only [dif_neg h1, dif_neg h2, if_neg h2, show 16 + (d.val - 16) = d.val by omega]

theorem rotK_apply (u : FVec Ideal S8x4096x4x64 .f32) (b : Fin 8) (p : Fin 4096) (h : Fin 4) (d : Fin 64) :
    rotK u (ix4 b p h d) = turn p (fun e => u (ix4 b p h e)) d := by
  pointwise [rotK, loK, hiK, wideK, cosRow, sinRow]
  simp only [angles_apply]
  unfold turn
  by_cases h1 : d.val < 8
  · simp only [dif_pos h1, dif_pos (show d.val < 16 by omega), Nat.add_comm 8]
  · by_cases h2 : d.val < 16
    · simp only [dif_neg h1, dif_pos h2, if_pos h2, show 8 + (d.val - 8) = d.val by omega]
    · simp only [dif_neg h1, dif_neg h2, if_neg h2, show 16 + (d.val - 16) = d.val by omega]

section
variable (x : FVec Ideal S32768x1024 .f32) (g : FVec Ideal S1024 .f32) (w : FVec Ideal S1024x1536 .f32)

/-- Row `r` of the packed projection. -/
abbrev prow (r : Fin 32768) : Fin 1536 → EReal := Cert.QkvRow.packed (fun k => x (ix2 r k)) (fun k => g (ix1 k)) (fun k n => w (ix2 k n))

theorem packed_apply (r : Fin 32768) (n : Fin 1536) : packed x g w (ix2 r n) = prow x g w r n := by
  pointwise [packed, normed, rms, Cert.QkvRow.packed]

theorem keys_apply (r : Fin 32768) (n : Fin 256) :
    keys x g w (ix2 r n) = turn (r.val % 4096) (head (prow x g w r) (1024 + n.val / 64 * 64) (by omega)) ⟨n.val % 64, by omega⟩ := by
  pointwise [keys]
  rw [rotK_apply]
  congr 1
  funext e
  unfold head
  rw [← packed_apply]
  pointwise []
  congr 2 <;> apply Fin.ext <;> simp <;> omega

theorem queries_apply (r : Fin 32768) (n : Fin 1024) :
    queries x g w (ix2 r n) = HMul.hMul (α := EReal) (β := EReal) (γ := EReal)
      (turn (r.val % 4096) (head (prow x g w r) (n.val / 64 * 64) (by omega)) ⟨n.val % 64, by omega⟩)
      (Ideal.div (Ideal.ofBits .f32 0x3E000000#32) (Ideal.log (Ideal.ofBits .f32 0x40000000#32))) := by
  pointwise [queries]
  rw [rotQ_apply]
  congr 2
  funext e
  unfold head
  rw [← packed_apply]
  pointwise []

theorem values_apply (r : Fin 32768) (n : Fin 256) : values x g w (ix2 r n) = prow x g w r ⟨1280 + n.val, by omega⟩ := by
  pointwise [values]
  rw [packed_apply]

end

end Cert.QkvRef

end
-- ==== Proof.Scale.lean ====
/-
  THE FACTOR OF THE QUERIES, one eighth over the natural logarithm of two, as the words of the programs spell it.
-/
module

public import Idealize.ShloMosaic.Lib.Pointwise

@[expose] public section

noncomputable section

namespace Cert.Scale

open Idealize.ShloMosaic

theorem scale_word : Ideal.div (Ideal.ofBits .f32 0x3E000000#32) (Ideal.log (Ideal.ofBits .f32 0x40000000#32)) = ((1 / 8 * (Real.log 2)⁻¹ : ℝ) : EReal) := by
  have e1 : Ideal.ofBits .f32 0x3E000000#32 = ((1 / 8 : ℝ) : EReal) := by
    simp [Ideal.ofBits, Ideal.ieee]
    rw [← EReal.coe_mul]
    norm_num
  have e2 : Ideal.ofBits .f32 0x40000000#32 = ((2 : ℝ) : EReal) := by
    simp [Ideal.ofBits, Ideal.ieee]
    rw [← EReal.coe_mul]
    norm_num
  have h : Real.log 2 ≠ 0 := (Real.log_pos (by norm_num)).ne'
  have e3 : Ideal.log ((2 : ℝ) : EReal) = ((Real.log 2 : ℝ) : EReal) := by
    show (if (2 : ℝ) ≤ 0 then ⊥ else ((Real.log 2 : ℝ) : EReal)) = _
    rw [if_neg (by norm_num)]
  rw [e1, e2, e3]
  unfold Ideal.div
  rw [if_neg (by exact_mod_cast h), ← EReal.coe_inv, ← EReal.coe_mul]

end Cert.Scale

end
-- ==== Proof.QkvValue.lean ====
/-
  THE QUERY, KEY AND VALUE CALL, its three results at `Ideal`: what every grid point writes back is its block of one function of
  the arguments (`final4`, `final5`, `final6`), the host reference is that function at every index, and the two runs side by
  side are the claim (`algebraic`).
-/
module

public import proofs.«01_k».proof.Defs
public import proofs.«01_k».proof.Proof.QkvTile
public import proofs.«01_k».proof.Proof.QkvRef
public import proofs.«01_k».proof.Proof.Scale
@[expose] public section

set_option maxRecDepth 16384

noncomputable section

namespace Cert.QkvValue
open Idealize.ShloMosaic Idealize.ShloMosaic.TcCoe Idealize.SL.Sem Cert.QkvIdeal Cert.QkvIdeal.Gen Cert.MlpRow Cert.QkvRow Cert.QkvTile

/-- The factor the queries are multiplied by. -/
abbrev factor : EReal := ((8 * Real.log 2)⁻¹ : ℝ)

/-- What the named constant of the kernel is. -/
theorem qscale_eq : (Named.named κ "qscale" 0x3E38AA3B#32 : Ideal .f32) = factor :=
  IdealRules.named_const.ideal_named_scalar (φ := .f32) κ "qscale" 0x3E38AA3B#32 factor rfl

/-- What the reference multiplies by. -/
theorem word_eq : Ideal.div (Ideal.ofBits .f32 0x3E000000#32) (Ideal.log (Ideal.ofBits .f32 0x40000000#32)) = factor := by
  rw [Cert.Scale.scale_word]
  congr 1
  rw [mul_inv, one_div]

section

variable (v : FVec Ideal S512x1280 .f32) (c lo hi : FVec Ideal S512x128 .f32) (p : Fin 512 → Nat) (P : Fin 512 → Fin 1536 → EReal)
  (hv : ∀ (r : Fin 512) (n : Fin 1280), v (ix2 r n) = P r ⟨n.val, by omega⟩)
  (hc : ∀ (r : Fin 512) (l : Fin 128), c (ix2 r l) = cosAt (p r) (l.val % 64))
  (hl : ∀ (r : Fin 512) (l : Fin 128), lo (ix2 r l) = loAt (p r) (l.val % 64))
  (hh : ∀ (r : Fin 512) (l : Fin 128), hi (ix2 r l) = hiAt (p r) (l.val % 64))
include hv hc hl hh

/-- The tile of 128 columns from column `o`, turned. -/
theorem tile_apply (o : Nat) (ho : o ≤ 1152) (hd : o % 64 = 0) (hs : S512x1280.Slices ![0, o] S512x128) (r : Fin 512) (l : Fin 128) :
    spun (extractStridedSlice S512x128 ![0, o] v hs) c lo hi (ix2 r l)
      = turn (p r) (head (P r) ((o + l.val) / 64 * 64) (by omega)) ⟨(o + l.val) % 64, by omega⟩ := by
  rw [spun_apply _ c lo hi (p r) r l (hc r l) (hl r l) (hh r l)]
  have e : (⟨l.val % 64, by omega⟩ : Fin 64) = ⟨(o + l.val) % 64, by omega⟩ := Fin.ext (by simp only; omega)
  rw [e]
  congr 1
  funext e
  unfold head
  pointwise []
  rw [hv]
  congr 1
  apply Fin.ext
  simp only
  omega

/-- The same at a position of the keys' tile. -/
theorem key_tile (o : Nat) (ho : o ≤ 128) (hd : o % 64 = 0) (hs : S512x1280.Slices ![0, 1024 + o] S512x128)
    (x : S512x128.Idx) (r : Fin 512) (C : Fin 256) (h0 : r.val = (x 0).val) (h1 : C.val = o + (x 1).val) :
    truncf .bf16 (spun (extractStridedSlice S512x128 ![0, 1024 + o] v hs) c lo hi) bitsLt_bf16_f32 x
      = turn (p r) (head (P r) (1024 + C.val / 64 * 64) (by omega)) ⟨C.val % 64, by omega⟩ := by
  obtain ⟨r', l, rfl⟩ : ∃ (r' : Fin 512) (l : Fin 128), x = ix2 r' l := ⟨x 0, x 1, eq_ix2 x⟩
  obtain rfl : r = r' := Fin.ext h0
  have h1 : C.val = o + l.val := h1
  refine (tile_apply v c lo hi p P hv hc hl hh (1024 + o) (by omega) (by omega) hs r l).trans ?_
  congr 1
  · congr 1
    omega
  · apply Fin.ext
    simp only
    omega

/-- and of the queries' tile, with the factor. -/
theorem query_tile (o : Nat) (ho : o ≤ 896) (hd : o % 64 = 0) (hs : S512x1280.Slices ![0, o] S512x128)
    (x : S512x128.Idx) (r : Fin 512) (C : Fin 1024) (h0 : r.val = (x 0).val) (h1 : C.val = o + (x 1).val) :
    truncf .bf16 (mulf (spun (extractStridedSlice S512x128 ![0, o] v hs) c lo hi) (broadcast S512x128 (Named.named κ "qscale" 0x3E38AA3B#32 : Ideal .f32))) bitsLt_bf16_f32 x
      = HMul.hMul (α := EReal) (β := EReal) (γ := EReal) (turn (p r) (head (P r) (C.val / 64 * 64) (by omega)) ⟨C.val % 64, by omega⟩) factor := by
  obtain ⟨r', l, rfl⟩ : ∃ (r' : Fin 512) (l : Fin 128), x = ix2 r' l := ⟨x 0, x 1, eq_ix2 x⟩
  obtain rfl : r = r' := Fin.ext h0
  have h1 : C.val = o + l.val := h1
  refine congrArg₂ (fun a b : EReal => a * b) ((tile_apply v c lo hi p P hv hc hl hh o (by omega) hd hs r l).trans ?_) qscale_eq
  congr 1
  · congr 1
    omega
  · apply Fin.ext
    simp only
    omega

end

section
variable (x0 : Vec Ideal S512x1024 .f32) (x1 : Vec Ideal S1x1024 .f32) (x2 : Vec Ideal S1024x1536 .bf16) (x3 : Vec Ideal S3x512x128 .f32)

/-- Row `r` of a block's packed projection. -/
abbrev brow (r : Fin 512) : Fin 1536 → EReal := packed (fun k => x0 (ix2 r k)) (fun k => x1 (ix2 0 k)) (fun k n => x2 (ix2 k n))

theorem brow_of (r : Fin 512) (f g : Fin 1024 → EReal) (w : Fin 1024 → Fin 1536 → EReal) (h0 : ∀ k, x0 (ix2 r k) = f k)
    (h1 : ∀ k, x1 (ix2 0 k) = g k) (h2 : ∀ k n, x2 (ix2 k n) = w k n) : brow x0 x1 x2 r = packed f g w := by
  unfold brow
  simp only [h0, h1, h2]

theorem pay25_apply (r : Fin 512) (n : Fin 1280) : k0_pay25 x0 x1 x2 x3 (ix2 r n) = brow x0 x1 x2 r ⟨n.val, by omega⟩ := by
  pointwise [k0_pay25, k0_pay9, k0_pay5, brow, packed, rms, r0_0, r0_1, r0_5]

theorem pay22_apply (r : Fin 512) (l : Fin 128) : k0_pay22 x0 x1 x2 x3 (ix2 r l) = x3 (ix3 0 r l) := by
  pointwise [k0_pay22, k0_pay6, r0_2]

theorem pay23_apply (r : Fin 512) (l : Fin 128) : k0_pay23 x0 x1 x2 x3 (ix2 r l) = x3 (ix3 1 r l) := by
  pointwise [k0_pay23, k0_pay7, r0_3]

theorem pay24_apply (r : Fin 512) (l : Fin 128) : k0_pay24 x0 x1 x2 x3 (ix2 r l) = x3 (ix3 2 r l) := by
  pointwise [k0_pay24, k0_pay8, r0_4]

variable (p : Fin 512 → Nat) (hc : ∀ (r : Fin 512) (l : Fin 128), x3 (ix3 0 r l) = cosAt (p r) (l.val % 64))
  (hl : ∀ (r : Fin 512) (l : Fin 128), x3 (ix3 1 r l) = loAt (p r) (l.val % 64))
  (hh : ∀ (r : Fin 512) (l : Fin 128), x3 (ix3 2 r l) = hiAt (p r) (l.val % 64))

include hc hl hh in
theorem out0_4_apply (r : Fin 512) (C : Fin 1024) :
    out0_4 x0 x1 x2 x3 (ix2 r C)
      = HMul.hMul (α := EReal) (β := EReal) (γ := EReal) (turn (p r) (head (brow x0 x1 x2 r) (C.val / 64 * 64) (by omega)) ⟨C.val % 64, by omega⟩) factor := by
  have q := query_tile (k0_pay25 x0 x1 x2 x3) (k0_pay22 x0 x1 x2 x3) (k0_pay23 x0 x1 x2 x3) (k0_pay24 x0 x1 x2 x3) p (brow x0 x1 x2)
    (pay25_apply x0 x1 x2 x3) (fun r l => (pay22_apply x0 x1 x2 x3 r l).trans (hc r l)) (fun r l => (pay23_apply x0 x1 x2 x3 r l).trans (hl r l))
    (fun r l => (pay24_apply x0 x1 x2 x3 r l).trans (hh r l))
  unfold out0_4
  canon_tiles x h
  · exact q 896 (by decide) (by decide) slices_S512x1280_o0_896_S512x128 x r C h0 h1
  · exact q 768 (by decide) (by decide) slices_S512x1280_o0_768_S512x128 x r C h0 h1
  · exact q 640 (by decide) (by decide) slices_S512x1280_o0_640_S512x128 x r C h0 h1
  · exact q 512 (by decide) (by decide) slices_S512x1280_o0_512_S512x128 x r C h0 h1
  · exact q 384 (by decide) (by decide) slices_S512x1280_o0_384_S512x128 x r C h0 h1
  · exact q 256 (by decide) (by decide) slices_S512x1280_o0_256_S512x128 x r C h0 h1
  · exact q 128 (by decide) (by decide) slices_S512x1280_o0_128_S512x128 x r C h0 h1
  · exact q 0 (by decide) (by decide) slices_S512x1280_o0_0_S512x128 x r C h0 (h1.trans (Nat.zero_add _).symm)

include hc hl hh in
theorem out0_5_apply (r : Fin 512) (C : Fin 256) :
    out0_5 x0 x1 x2 x3 (ix2 r C) = turn (p r) (head (brow x0 x1 x2 r) (1024 + C.val / 64 * 64) (by omega)) ⟨C.val % 64, by omega⟩ := by
  have q := key_tile (k0_pay25 x0 x1 x2 x3) (k0_pay22 x0 x1 x2 x3) (k0_pay23 x0 x1 x2 x3) (k0_pay24 x0 x1 x2 x3) p (brow x0 x1 x2)
    (pay25_apply x0 x1 x2 x3) (fun r l => (pay22_apply x0 x1 x2 x3 r l).trans (hc r l)) (fun r l => (pay23_apply x0 x1 x2 x3 r l).trans (hl r l))
    (fun r l => (pay24_apply x0 x1 x2 x3 r l).trans (hh r l))
  unfold out0_5
  canon_tiles x h
  · exact q 128 (by decide) (by decide) slices_S512x1280_o0_1152_S512x128 x r C h0 h1
  · exact q 0 (by decide) (by decide) slices_S512x1280_o0_1024_S512x128 x r C h0 (h1.trans (Nat.zero_add _).symm)

theorem out0_6_apply (r : Fin 512) (C : Fin 256) : out0_6 x0 x1 x2 x3 (ix2 r C) = brow x0 x1 x2 r ⟨1280 + C.val, by omega⟩ := by
  have hz : (![0, 0] : Fin 2 → Nat) = fun _ => 0 := funext fun a => by fin_cases a <;> rfl
  unfold_out out0_6
  rw [View.canon_unit_zero hz]
  pointwise [k0_pay4, k0_pay5, brow, packed, rms, r0_0, r0_1, r0_16]

end

/-- The queries of row `r`, by the rows of the argument arrays. -/
def resQ (x : Fin 32768 → Fin 1024 → EReal) (g : Fin 1024 → EReal) (w : Fin 1024 → Fin 1536 → EReal) (r : Fin 32768) (n : Fin 1024) : EReal :=
  turn (r.val % 4096) (head (packed (x r) g w) (n.val / 64 * 64) (by omega)) ⟨n.val % 64, by omega⟩ * factor

/-- The keys of row `r`. -/
def resK (x : Fin 32768 → Fin 1024 → EReal) (g : Fin 1024 → EReal) (w : Fin 1024 → Fin 1536 → EReal) (r : Fin 32768) (n : Fin 256) : EReal :=
  turn (r.val % 4096) (head (packed (x r) g w) (1024 + n.val / 64 * 64) (by omega)) ⟨n.val % 64, by omega⟩

/-- The values of row `r`. -/
def resV (x : Fin 32768 → Fin 1024 → EReal) (g : Fin 1024 → EReal) (w : Fin 1024 → Fin 1536 → EReal) (r : Fin 32768) (n : Fin 256) : EReal :=
  packed (x r) g w ⟨1280 + n.val, by omega⟩

variable (m : (ℓ : Loc nD τ sig) → Buf (Elt Ideal) ℓ)

/-- The rows, the norm's weights and the packed weight of the launch. -/
abbrev rowsOf (c : Dev nD) (r : Fin 32768) (k : Fin 1024) : EReal := m ((c : Thread nD τ).loc main_arg0) (ix2 r k)
abbrev normOf (c : Dev nD) (k : Fin 1024) : EReal := m ((c : Thread nD τ).loc main_arg1) (ix1 k)
abbrev weightOf (c : Dev nD) (k : Fin 1024) (n : Fin 1536) : EReal := m ((c : Thread nD τ).loc main_arg2) (ix2 k n)

/-- The kernel's three result arrays. -/
def arrQ (c : Dev nD) : Buf (Elt Ideal) ((c : Thread nD τ).loc main_v40_0) := fun (i : S32768x1024.Idx) => resQ (rowsOf m c) (normOf m c) (weightOf m c) (i 0) (i 1)
def arrK (c : Dev nD) : Buf (Elt Ideal) ((c : Thread nD τ).loc main_v40_1) := fun (i : S32768x256.Idx) => resK (rowsOf m c) (normOf m c) (weightOf m c) (i 0) (i 1)
def arrV (c : Dev nD) : Buf (Elt Ideal) ((c : Thread nD τ).loc main_v40_2) := fun (i : S32768x256.Idx) => resV (rowsOf m c) (normOf m c) (weightOf m c) (i 0) (i 1)

theorem rows_blk (c : Dev nD) (t : Fin cfg0.N) (R : Fin 512) (k : Fin 1024) :
    iblk m c 0 t (ix2 R k) = m ((c : Thread nD τ).loc main_arg0) (ix2 ⟨t.val * 512 + R.val, by have := lt_N t; omega⟩ k) := by
  blk_point [iblk, V, idx t]

theorem norm_blk (c : Dev nD) (t : Fin cfg0.N) (k : Fin 1024) : iblk m c 1 t (ix2 0 k) = m ((c : Thread nD τ).loc main_arg1) (ix1 k) := by
  blk_point [iblk, V, idx t]

theorem weight_blk (c : Dev nD) (t : Fin cfg0.N) (k : Fin 1024) (n : Fin 1536) :
    iblk m c 2 t (ix2 k n) = m ((c : Thread nD τ).loc main_arg2) (ix2 k n) := by
  blk_point [iblk, V, idx t]

/-- A block's row of the packed projection is the array's. -/
theorem brow_blk (c : Dev nD) (t : Fin cfg0.N) (R : Fin 512) :
    brow (iblk m c 0 t) (iblk m c 1 t) (iblk m c 2 t) R
      = packed (rowsOf m c ⟨t.val * 512 + R.val, by have := lt_N t; omega⟩) (normOf m c) (weightOf m c) := by
  exact brow_of _ _ _ R _ _ _ (rows_blk m c t R) (norm_blk m c t) (weight_blk m c t)

/-- The position of a block's row. -/
def pos (t : Fin cfg0.N) (R : Fin 512) : Nat := t.val % 8 * 512 + R.val

theorem pos_eq (t : Fin cfg0.N) (R : Fin 512) : pos t R = (t.val * 512 + R.val) % 4096 := by
  unfold pos
  omega

/-- After the run the first result array is the queries. -/
theorem final4 (c : Dev nD) : (dats m 0 c).arrAt 4 cfg0.N = arrQ m c := by
  refine (dats m 0 c).arrAt_eq_of_covers 4 _ (by decide +kernel) fun t hf y => ?_
  blk_simp
  rw [after0_4]
  idx_vars y
  refine Eq.trans (b := arrQ m c (ix2 ⟨t.val * 512 + y0.val, by have := lt_N t; omega⟩ y1)) ?_ ?_
  · refine (out0_4_apply _ _ _ _ (pos t) (fun r l => (table_blk m c t 0 r l).trans (table_cos _ l)) (fun r l => (table_blk m c t 1 r l).trans (table_lo _ l))
      (fun r l => (table_blk m c t 2 r l).trans (table_hi _ l)) _ _).trans ?_
    rw [brow_blk, pos_eq]
    rfl
  · generalize arrQ m c = G
    blk_point [idx t]

/-- The second is the keys. -/
theorem final5 (c : Dev nD) : (dats m 0 c).arrAt 5 cfg0.N = arrK m c := by
  refine (dats m 0 c).arrAt_eq_of_covers 5 _ (by decide +kernel) fun t hf y => ?_
  blk_simp
  rw [after0_5]
  idx_vars y
  refine Eq.trans (b := arrK m c (ix2 ⟨t.val * 512 + y0.val, by have := lt_N t; omega⟩ y1)) ?_ ?_
  · refine (out0_5_apply _ _ _ _ (pos t) (fun r l => (table_blk m c t 0 r l).trans (table_cos _ l)) (fun r l => (table_blk m c t 1 r l).trans (table_lo _ l))
      (fun r l => (table_blk m c t 2 r l).trans (table_hi _ l)) _ _).trans ?_
    rw [brow_blk, pos_eq]
    rfl
  · generalize arrK m c = G
    blk_point [idx t]

/-- The third is the values. -/
theorem final6 (c : Dev nD) : (dats m 0 c).arrAt 6 cfg0.N = arrV m c := by
  refine (dats m 0 c).arrAt_eq_of_covers 6 _ (by decide +kernel) fun t hf y => ?_
  blk_simp
  rw [after0_6]
  idx_vars y
  refine Eq.trans (b := arrV m c (ix2 ⟨t.val * 512 + y0.val, by have := lt_N t; omega⟩ y1)) ?_ ?_
  · refine (out0_6_apply _ _ _ _ _ _).trans ?_
    rw [brow_blk]
    rfl
  · generalize arrV m c = G
    blk_point [idx t]

/-- The reference leaves its arguments and its counters as they were. -/
theorem frame_ref : Cert.quiescent_QkvRefIdeal := fun m' ρ _ =>
  (θ_run Cert.QkvRefIdeal.defs _ _).mono (fun r h => ⟨fun c => (h c).2.2.2, sem_eq_zero_of_no_sems (by decide) r.2⟩)
    (Cert.QkvRefIdeal.Value.run (F := Ideal) m' ρ)

/-- Both runs end with the three result arrays at the same functions of the arguments. -/
theorem algebraic : Cert.algebraic_QkvIdeal_QkvRefIdeal := by
  intro m ρ m' ρ' _ hagree
  refine ⟨fun c => arrQ m c, fun c => arrK m c, fun c => arrV m c, ?_, ?_⟩
  · exact (θ_run Cert.QkvIdeal.defs _ _).mono (fun _ h c => ⟨(h c).1.trans (final4 m c), (h c).2.1.trans (final5 m c), (h c).2.2.1.trans (final6 m c), (h c).2.2.2⟩)
      (Cert.QkvIdeal.Value.run_blocks (F := Ideal) m ρ)
  · refine (θ_run Cert.QkvRefIdeal.defs _ _).mono (fun _ h c => ⟨(h c).1.trans ?_, (h c).2.1.trans ?_, (h c).2.2.1.trans ?_, (h c).2.2.2⟩)
      (Cert.QkvRefIdeal.Value.run (F := Ideal) m' ρ')
    · obtain ⟨h0, h1, h2⟩ := hagree c
      rw [Cert.QkvRef.queries_eq, h0, h1, h2]
      funext i
      obtain ⟨r, l, rfl⟩ : ∃ (r : Fin 32768) (l : Fin 1024), i = ix2 r l := ⟨i 0, i 1, eq_ix2 i⟩
      refine (Cert.QkvRef.queries_apply _ _ _ r l).trans ?_
      rw [word_eq]
      rfl
    · obtain ⟨h0, h1, h2⟩ := hagree c
      rw [Cert.QkvRef.keys_eq, h0, h1, h2]
      funext i
      obtain ⟨r, l, rfl⟩ : ∃ (r : Fin 32768) (l : Fin 256), i = ix2 r l := ⟨i 0, i 1, eq_ix2 i⟩
      exact Cert.QkvRef.keys_apply _ _ _ r l
    · obtain ⟨h0, h1, h2⟩ := hagree c
      rw [h0, h1, h2]
      funext i
      obtain ⟨r, l, rfl⟩ : ∃ (r : Fin 32768) (l : Fin 256), i = ix2 r l := ⟨i 0, i 1, eq_ix2 i⟩
      exact Cert.QkvRef.values_apply _ _ _ r l

end Cert.QkvValue

end
-- ==== Proof.FusedMlp.lean ====
/-
  THE CALL THAT CLOSES THE SECOND LAYER ON ONE BATCH WHILE IT ATTENDS OVER THE OTHER: its first result, the layer's output
  projection, squared-ReLU MLP and final norm, as a function of the arguments (`finalMlp`).
-/
module

public import proofs.«01_k».proof.Proof.MlpRow
public import Idealize.ShloMosaic.Lib.Pipeline.ValueKit
public import proofs.«01_k».proof.Proof.Gen.KernelIdeal.Value
@[expose] public section

set_option maxRecDepth 16384

noncomputable section

namespace Cert.FusedMlp
open Idealize.ShloMosaic Idealize.ShloMosaic.TcCoe Idealize.SL.Sem Cert.KernelIdeal Cert.KernelIdeal.Gen Cert.MlpRow

section

variable (o : Vec Ideal S512x1024 .bf16) (x : Vec Ideal S512x1024 .f32) (wo : Vec Ideal S1024x1024 .bf16)
  (g : Vec Ideal S1x1024 .f32) (u0 d0 u1 d1 u2 d2 u3 d3 : Vec Ideal S1024x1024 .bf16) (gf : Vec Ideal S1x1024 .f32)

/-- Row `r` of the block after the output projection. -/
abbrev prow (r : Fin 512) : Fin 1024 → EReal :=
  proj (fun k => x (ix2 r k)) (fun k => o (ix2 r k)) (fun k c => wo (ix2 k c))

/-- and normalised. -/
abbrev nrow (r : Fin 512) : Fin 1024 → EReal := rms (prow o x wo r) (fun k => g (ix2 0 k))

/-- The first payload: the projected rows. -/
theorem pay3_apply (r : Fin 512) (c : Fin 1024) : k0_pay3 o x wo (ix2 r c) = prow o x wo r c := by
  pointwise [k0_pay3]
  rfl

/-- The normalised rows. -/
theorem pay4_apply (r : Fin 512) (c : Fin 1024) : k0_pay4 o x wo g (ix2 r c) = nrow o x wo g r c := by
  pointwise [k0_pay4]
  simp only [pay3_apply]
  rfl

/-- The projected rows and the first run of hidden units. -/
theorem pay5_apply (r : Fin 512) (c : Fin 1024) :
    k0_pay5 o x wo g u0 d0 (ix2 r c) = prow o x wo r c + chunkOf (nrow o x wo g r) (fun k j => u0 (ix2 k j)) (fun k j => d0 (ix2 k j)) c := by
  pointwise [k0_pay5]
  simp only [pay3_apply, pay4_apply]
  rfl

/-- The second run of hidden units before the square. -/
theorem pay6_apply (r : Fin 512) (c : Fin 1024) :
    k0_pay6 o x wo g u1 (ix2 r c) = ∑ k : Fin 1024, nrow o x wo g r k * u1 (ix2 k c) := by
  pointwise [k0_pay6]
  simp only [pay4_apply]

/-- The rows after all four runs of hidden units. -/
theorem pay8_apply (r : Fin 512) (c : Fin 1024) :
    k0_pay8 (k0_pay4 o x wo g) (k0_pay5 o x wo g u0 d0) (k0_pay6 o x wo g u1) k0_pay7 d1 u2 d2 u3 d3 (ix2 r c)
      = prow o x wo r c + chunkOf (nrow o x wo g r) (fun k j => u0 (ix2 k j)) (fun k j => d0 (ix2 k j)) c + chunkOf (nrow o x wo g r) (fun k j => u1 (ix2 k j)) (fun k j => d1 (ix2 k j)) c
        + chunkOf (nrow o x wo g r) (fun k j => u2 (ix2 k j)) (fun k j => d2 (ix2 k j)) c + chunkOf (nrow o x wo g r) (fun k j => u3 (ix2 k j)) (fun k j => d3 (ix2 k j)) c := by
  pointwise [k0_pay8, k0_pay7]
  simp only [pay4_apply, pay5_apply, pay6_apply]
  rfl

/-- The rows `v` of values `h` normalised again, `s` holding each row's mean square. -/
theorem pay11_apply (v : FVec Ideal S512x1024 .f32) (h : Fin 512 → Fin 1024 → EReal) (s : FVec Ideal S512x1 .f32)
    (hv : ∀ r c, v (ix2 r c) = h r c)
    (hs : ∀ r, s (ix2 r 0) = Ideal.div (∑ k : Fin 1024, h r k * h r k) (Ideal.ofBits .f32 0x44800000#32) + Ideal.ofBits .f32 0x3727C5AC#32)
    (r : Fin 512) (c : Fin 1024) :
    k0_pay11 v (k0_pay9 gf) s (ix2 r c) = rms (h r) (fun k => gf (ix2 0 k)) c := by
  pointwise [k0_pay11, k0_pay9]
  simp only [hv, hs]
  rfl
end

/-- Columns `o .. o+1023` of the up projection. -/
abbrev upRect (o : Nat) (h : o + 1024 ≤ 4096) : Rect S1024x4096 :=
  Rect.unit (s := S1024x4096) ![0, o] S1024x1024.size (Fin.forall_fin_two.2 ⟨(by decide : 0 + 1024 ≤ 1024), h⟩)

/-- Rows `o .. o+1023` of the down projection. -/
abbrev dnRect (o : Nat) (h : o + 1024 ≤ 4096) : Rect S4096x1024 :=
  Rect.unit (s := S4096x1024) ![o, 0] S1024x1024.size (Fin.forall_fin_two.2 ⟨h, (by decide : 0 + 1024 ≤ 1024)⟩)

/-- The block the body stores, of the blocks it loads. -/
def block (x0 : Vec Ideal S512x1024 .f32) (x1 : Vec Ideal S512x1024 .bf16) (x2 : Vec Ideal S1024x1024 .bf16)
    (x3 : Vec Ideal S1x1024 .f32) (x4 : Vec Ideal S1024x4096 .bf16) (x5 : Vec Ideal S4096x1024 .bf16) (x6 : Vec Ideal S1x1024 .f32) :
    FVec Ideal S512x1024 .f32 :=
  k0_pay11 (k0_pay8 (k0_pay4 x1 x0 x2 x3)
      (k0_pay5 x1 x0 x2 x3 (View.ld x4 (upRect 0 (by decide))) (View.ld x5 (dnRect 0 (by decide))))
      (k0_pay6 x1 x0 x2 x3 (View.ld x4 (upRect 1024 (by decide)))) k0_pay7 (View.ld x5 (dnRect 1024 (by decide)))
      (View.ld x4 (upRect 2048 (by decide))) (View.ld x5 (dnRect 2048 (by decide)))
      (View.ld x4 (upRect 3072 (by decide))) (View.ld x5 (dnRect 3072 (by decide))))
    (k0_pay9 x6)
    (k0_pay10 (k0_pay4 x1 x0 x2 x3)
      (k0_pay5 x1 x0 x2 x3 (View.ld x4 (upRect 0 (by decide))) (View.ld x5 (dnRect 0 (by decide))))
      (k0_pay6 x1 x0 x2 x3 (View.ld x4 (upRect 1024 (by decide)))) k0_pay7 (View.ld x5 (dnRect 1024 (by decide)))
      (View.ld x4 (upRect 2048 (by decide))) (View.ld x5 (dnRect 2048 (by decide)))
      (View.ld x4 (upRect 3072 (by decide))) (View.ld x5 (dnRect 3072 (by decide))))

/-- That block at row `r` and column `c`. -/
theorem block_apply (x0 : Vec Ideal S512x1024 .f32) (x1 : Vec Ideal S512x1024 .bf16) (x2 : Vec Ideal S1024x1024 .bf16)
    (x3 : Vec Ideal S1x1024 .f32) (x4 : Vec Ideal S1024x4096 .bf16) (x5 : Vec Ideal S4096x1024 .bf16) (x6 : Vec Ideal S1x1024 .f32)
    (r : Fin 512) (c : Fin 1024) :
    block x0 x1 x2 x3 x4 x5 x6 (ix2 r c)
      = rms (mlp (proj (fun k => x0 (ix2 r k)) (fun k => x1 (ix2 r k)) (fun k c => x2 (ix2 k c))) (fun k => x3 (ix2 0 k))
          (fun k j => x4 (ix2 k j)) (fun j c => x5 (ix2 j c))) (fun k => x6 (ix2 0 k)) c := by
  unfold block
  have e (r : Fin 512) (c : Fin 1024) := (pay8_apply x1 x0 x2 x3 (View.ld x4 (upRect 0 (by decide))) (View.ld x5 (dnRect 0 (by decide)))
    (View.ld x4 (upRect 1024 (by decide))) (View.ld x5 (dnRect 1024 (by decide))) (View.ld x4 (upRect 2048 (by decide)))
    (View.ld x5 (dnRect 2048 (by decide))) (View.ld x4 (upRect 3072 (by decide))) (View.ld x5 (dnRect 3072 (by decide))) r c).trans
      (show _ = mlp (proj (fun k => x0 (ix2 r k)) (fun k => x1 (ix2 r k)) (fun k c => x2 (ix2 k c))) (fun k => x3 (ix2 0 k))
          (fun k j => x4 (ix2 k j)) (fun j c => x5 (ix2 j c)) c by
        rw [← mlp_chunks]
        pointwise [chunk, prow, nrow]
        rfl)
  refine pay11_apply x6 _ (fun r => mlp (proj (fun k => x0 (ix2 r k)) (fun k => x1 (ix2 r k)) (fun k c => x2 (ix2 k c))) (fun k => x3 (ix2 0 k))
          (fun k j => x4 (ix2 k j)) (fun j c => x5 (ix2 j c))) _ e (fun r => ?_) r c
  pointwise [k0_pay10]
  simp only [e]

variable (m : (ℓ : Loc nD τ sig) → Buf (Elt Ideal) ℓ)

/-- What a grid point leaves in the result's staging buffer. -/
theorem after_apply (c : Dev nD) (t : Fin cfg0.N) (r : Fin 512) (l : Fin 1024) :
    (outsAt0 m c t).1 (ix2 r l)
      = rms (mlp (proj (fun k => iblk m c 0 t (ix2 r k)) (fun k => iblk m c 1 t (ix2 r k)) (fun k c' => iblk m c 2 t (ix2 k c')))
          (fun k => iblk m c 3 t (ix2 0 k)) (fun k j => iblk m c 4 t (ix2 k j)) (fun j c' => iblk m c 5 t (ix2 j c')))
          (fun k => iblk m c 6 t (ix2 0 k)) l := by
  refine Eq.trans ?_ (block_apply (iblk m c 0 t) (iblk m c 1 t) (iblk m c 2 t) (iblk m c 3 t) (iblk m c 4 t) (iblk m c 5 t) (iblk m c 6 t) r l)
  unfold outsAt0
  dsimp only
  frame_out
  rfl

/-- The result as a function of the argument arrays, row by row. -/
def res (x : Fin 32768 → Fin 1024 → EReal) (o : Fin 32768 → Fin 1024 → EReal) (wo : Fin 1024 → Fin 1024 → EReal)
    (g : Fin 1024 → EReal) (up : Fin 1024 → Fin 4096 → EReal) (dn : Fin 4096 → Fin 1024 → EReal) (gf : Fin 1024 → EReal)
    (r : Fin 32768) (l : Fin 1024) : EReal :=
  rms (mlp (proj (x r) (o r) wo) g up dn) gf l

/-- The kernel's first result array. -/
def resK (c : Dev nD) : Buf (Elt Ideal) ((c : Thread nD τ).loc main_v11_0) := fun (i : S32768x1024.Idx) =>
  res (fun r k => m ((c : Thread nD τ).loc main_arg0) (ix2 r k)) (fun r k => m ((c : Thread nD τ).loc main_arg1) (ix2 r k))
    (fun k j => m ((c : Thread nD τ).loc main_arg2) (ix2 k j)) (fun k => m ((c : Thread nD τ).loc main_arg3) (ix1 k))
    (fun k j => m ((c : Thread nD τ).loc main_arg4) (ix2 k j)) (fun k j => m ((c : Thread nD τ).loc main_arg5) (ix2 k j))
    (fun k => m ((c : Thread nD τ).loc main_arg6) (ix1 k)) (i 0) (i 1)

/-- Where the windows' blocks lie: the row windows at block `t`, the weights whole. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_15.index t = ![t.val, 0] :=
  (by decide +kernel : ∀ t : Fin grid0.N, _)

/-- After the run the first result array is `resK`. -/
theorem final (c : Dev nD) : (dats m 0 c).arrAt 15 cfg0.N = resK m c := by
  refine (dats m 0 c).arrAt_eq_of_covers 15 _ (by decide +kernel) fun t hf y => ?_
  blk_simp
  rw [after0_15]
  idx_vars y
  refine (after_apply m c t _ _).trans ?_
  unfold resK res
  blk_point [iblk, V, idx t]

end Cert.FusedMlp

end
-- ==== Proof.AttStage.lean ====
/-
  ONE CHUNK OF THE BANDED ATTENTION: what the kernel stores of 32 query rows of one key head in one block of 128 queries, as
  one function of the chunk's place, its two sinks and its six loads (`probs`, `recips`), and that function read at an index.
-/
module

public import Idealize.ShloMosaic.Lib.Pipeline.ValueKit
public import proofs.«01_k».proof.Proof.Gen.KernelIdeal.Value
@[expose] public section

set_option maxRecDepth 16384

noncomputable section

namespace Cert.AttStage
open Idealize.ShloMosaic Idealize.ShloMosaic.TcCoe Idealize.SL.Sem Cert.KernelIdeal Cert.KernelIdeal.Gen

section
variable (qr lo hi : BitVec 32) (s : Elt Ideal .f32) (a b c : Vec Ideal S1x32x128 .f32)

/-- The rows of the chunk in its block of 128. -/
def rows : IVec S32x128 32 := addi (iota .tc S32x128 32 [0] iota_S32x128_d0_w32) (broadcast S32x128 qr)

/-- The columns of a block of 128 keys. -/
def cols : IVec S32x128 32 := iota .tc S32x128 32 [1] iota_S32x128_d1_w32

/-- Which keys of the block before are in the band. -/
def maskPrev : IVec S32x128 1 := cmpi .sge cols (addi (rows qr) (broadcast S32x128 lo))

/-- Which keys of the block after are in the band. -/
def maskNext : IVec S32x128 1 := cmpi .sle cols (subi (rows qr) (broadcast S32x128 hi))

/-- Scores of the block before, with what lies outside the band at minus infinity. -/
def sa : FVec Ideal S32x128 .f32 :=
  select (maskPrev qr lo) (shapeCast S32x128 a shapeCasts_S1x32x128_S32x128) (broadcast S32x128 (Scalar.ofBits .f32 0xFF800000#32))

/-- Scores of the block itself. -/
def sb : FVec Ideal S32x128 .f32 := shapeCast S32x128 b shapeCasts_S1x32x128_S32x128

/-- Scores of the block after, with what lies outside the band at minus infinity. -/
def sc : FVec Ideal S32x128 .f32 :=
  select (maskNext qr hi) (shapeCast S32x128 c shapeCasts_S1x32x128_S32x128) (broadcast S32x128 (Scalar.ofBits .f32 0xFF800000#32))

/-- The sink in the units of the scores. -/
def sk : Ideal .f32 := Scalar.mulf s (Named.named κ "log2e" 0x3FB8AA3B#32)

/-- Row maximum, the sink included. -/
def mx : FVec Ideal S32x1 .f32 :=
  maximumf (shapeCast S32x1 (multiReduction .maximumf [1] S32 (maximumf (maximumf (sa qr lo a) (sb b)) (sc qr hi c))
    0xFF800000#32 reduces_S32x128_S32 (.inl rfl) rfl) shapeCasts_S32_S32x1) (broadcast S32x1 (sk s))

/-- Powers of two of scores less the maximum. -/
def ex (u : FVec Ideal S32x128 .f32) (n : FVec Ideal S32x1 .f32) : FVec Ideal S32x128 .f32 :=
  exp2 (subf u (broadcastTo S32x128 n broadcasts_S32x1_S32x128))

/-- One over the row sum of the powers and the sink's. -/
def rc : FVec Ideal S32x1 .f32 :=
  divf (broadcast S32x1 (Scalar.ofBits .f32 0x3F800000#32))
    (addf (shapeCast S32x1 (multiReduction .add [1] S32
        (addf (addf (ex (sa qr lo a) (mx qr lo hi s a b c)) (ex (sb b) (mx qr lo hi s a b c))) (ex (sc qr hi c) (mx qr lo hi s a b c)))
        0x00000000#32 reduces_S32x128_S32 (.inl rfl) rfl) shapeCasts_S32_S32x1)
      (exp2 (subf (broadcast S32x1 (sk s)) (mx qr lo hi s a b c))))
end

variable (qr lo hi : BitVec 32) (s0 s1 : Elt Ideal .f32) (a0 b0 c0 a1 b1 c1 : Vec Ideal S1x32x128 .f32)

/-- The powers of both halves side by side. -/
def probs : FVec Ideal S1x32x768 .bf16 :=
  shapeCast S1x32x768 (truncf .bf16 (concatenate S32x768 1
    [⟨S32x128, ex (sa qr lo a0) (mx qr lo hi s0 a0 b0 c0)⟩, ⟨S32x128, ex (sb b0) (mx qr lo hi s0 a0 b0 c0)⟩,
      ⟨S32x128, ex (sc qr hi c0) (mx qr lo hi s0 a0 b0 c0)⟩, ⟨S32x128, ex (sa qr lo a1) (mx qr lo hi s1 a1 b1 c1)⟩,
      ⟨S32x128, ex (sb b1) (mx qr lo hi s1 a1 b1 c1)⟩, ⟨S32x128, ex (sc qr hi c1) (mx qr lo hi s1 a1 b1 c1)⟩]
    concatenates_S32x128_S32x128_S32x128_S32x128_S32x128_S32x128_S32x768_d1) bitsLt_bf16_f32) shapeCasts_S32x768_S1x32x768

/-- The reciprocals of both halves, each over its 64 lanes. -/
def recips : FVec Ideal S1x32x128 .f32 :=
  shapeCast S1x32x128 (select (cmpi .slt cols (broadcast S32x128 64#32))
    (broadcastTo S32x128 (shapeCast S32x1 (rc qr lo hi s0 a0 b0 c0) shapeCasts_S32x1_S32x1) broadcasts_S32x1_S32x128)
    (broadcastTo S32x128 (shapeCast S32x1 (rc qr lo hi s1 a1 b1 c1) shapeCasts_S32x1_S32x1) broadcasts_S32x1_S32x128))
    shapeCasts_S32x128_S1x32x128

/-! ### read at an index -/

/-- Largest of three runs of scores and of the sink. -/
def rowMax (u v w : Fin 128 → EReal) (σ : EReal) : EReal := max (Finset.univ.sup fun j => max (max (u j) (v j)) (w j)) σ

/-- One over the sum of the powers of three runs of scores and of the sink. -/
def rowRec (u v w : Fin 128 → EReal) (σ : EReal) : EReal :=
  Ideal.div 1 (∑ j, (FloatOps.exp2 (F := Ideal) (φ := .f32) (u j - rowMax u v w σ) + FloatOps.exp2 (F := Ideal) (φ := .f32) (v j - rowMax u v w σ)
    + FloatOps.exp2 (F := Ideal) (φ := .f32) (w j - rowMax u v w σ)) + FloatOps.exp2 (F := Ideal) (φ := .f32) (σ - rowMax u v w σ))

theorem ofBits_bot : Ideal.ofBits .f32 0xFF800000#32 = (⊥ : EReal) := by simp [Ideal.ofBits, Ideal.ieee]

theorem ofBool_one (b : Bool) : (BitVec.ofBool b = 1#1) ↔ b = true := by cases b <;> decide

theorem sa_apply (a : Vec Ideal S1x32x128 .f32) (r : Fin 32) (j : Fin 128) :
    sa qr lo a (ix2 r j) = if (BitVec.ofNat 32 r.val + qr + lo).sle (BitVec.ofNat 32 j.val) then a (ix3 0 r j) else ⊥ := by
  pointwise [sa, maskPrev, rows, cols]
  simp [Scalar.select, IntOp.cmpi, IntOp.addi, ofBits_bot, ofBool_one]

theorem sc_apply (c : Vec Ideal S1x32x128 .f32) (r : Fin 32) (j : Fin 128) :
    sc qr hi c (ix2 r j) = if (BitVec.ofNat 32 j.val).sle (BitVec.ofNat 32 r.val + qr - hi) then c (ix3 0 r j) else ⊥ := by
  pointwise [sc, maskNext, rows, cols]
  simp [Scalar.select, IntOp.cmpi, IntOp.addi, IntOp.subi, ofBits_bot, ofBool_one]

theorem mx_apply (s : Elt Ideal .f32) (a b c : Vec Ideal S1x32x128 .f32) (r : Fin 32) :
    mx qr lo hi s a b c (ix2 r 0) = rowMax (fun j => sa qr lo a (ix2 r j)) (fun j => b (ix3 0 r j)) (fun j => sc qr hi c (ix2 r j)) (sk s) := by
  pointwise [mx, sb]
  rw [ofBits_bot]
  rfl

theorem rc_apply (s : Elt Ideal .f32) (a b c : Vec Ideal S1x32x128 .f32) (r : Fin 32) :
    rc qr lo hi s a b c (ix2 r 0) = rowRec (fun j => sa qr lo a (ix2 r j)) (fun j => b (ix3 0 r j)) (fun j => sc qr hi c (ix2 r j)) (sk s) := by
  pointwise [rc, ex, sb]
  simp only [mx_apply]
  rfl

theorem probs_apply (r : Fin 32) (h : Fin 2) (p : Fin 3) (j : Fin 128) (n : Fin 768) (hn : n.val = 384 * h.val + 128 * p.val + j.val) :
    probs qr lo hi s0 s1 a0 b0 c0 a1 b1 c1 (ix3 0 r n)
      = FloatOps.exp2 (F := Ideal) (φ := .f32) ((if p = 0 then sa qr lo (if h = 0 then a0 else a1) (ix2 r j) else if p = 1 then (if h = 0 then b0 else b1) (ix3 0 r j)
          else sc qr hi (if h = 0 then c0 else c1) (ix2 r j))
        - rowMax (fun j => sa qr lo (if h = 0 then a0 else a1) (ix2 r j)) (fun j => (if h = 0 then b0 else b1) (ix3 0 r j))
            (fun j => sc qr hi (if h = 0 then c0 else c1) (ix2 r j)) (sk (if h = 0 then s0 else s1))) := by
  obtain ⟨j, hj⟩ := j
  obtain ⟨n, hN⟩ := n
  pointwise [probs]
  fin_cases h <;> fin_cases p <;> simp at hn ⊢ <;> pointwise [ex, sb] <;> simp only [mx_apply] <;>
    split_ifs <;> first | (exfalso; omega) | (congr 3; first | exact congrArg (ix2 r) (Fin.ext (by dsimp only; omega)) | exact congrArg (ix3 0 r) (Fin.ext (by dsimp only; omega)))

theorem recips_apply (r : Fin 32) (j : Fin 128) :
    recips qr lo hi s0 s1 a0 b0 c0 a1 b1 c1 (ix3 0 r j) = if j.val < 64 then rc qr lo hi s0 a0 b0 c0 (ix2 r 0) else rc qr lo hi s1 a1 b1 c1 (ix2 r 0) := by
  pointwise [recips, cols]
  have : (BitVec.ofNat 32 j.val).slt 64#32 = decide (j.val < 64) := by
    revert j; decide
  simp [Scalar.select, IntOp.cmpi, this, ofBool_one]

end Cert.AttStage

end
-- ==== Proof.AttFamilies.lean ====
/-
  THE ATTENTION'S STORES AS FAMILIES: each buffer of the attention's body is filled by stores of one shape whose values are one
  function of the store's place: those functions (`loPart`, `hiPart`, `scores`, `AttStage.probs`, `AttStage.recips`, `outPart`).
-/
module

public import Idealize.ShloMosaic.Lib.Pipeline.ValueKit
public import proofs.«01_k».proof.Proof.AttStage
@[expose] public section

set_option maxRecDepth 16384

noncomputable section

namespace Cert.AttWords
open Idealize.ShloMosaic Idealize.ShloMosaic.TcCoe Idealize.SL.Sem Cert.KernelIdeal Cert.KernelIdeal.Gen Cert.AttStage

/-! ### keys and values split over the two halves of the lanes -/

/-- 128 rows of zeros. -/
def zero128 : FVec Ideal S128x128 .bf16 := broadcast S128x128 (Scalar.ofBits .bf16 0x0000#16)

/-- Which lanes are the first 64. -/
def first128 : IVec S128x128 1 := cmpi .slt (iota .tc S128x128 32 [1] iota_S128x128_d1_w32) (broadcast S128x128 64#32)

/-- Head `g` of two heads side by side, in the first 64 lanes. -/
def loPart128 (g : Fin 4) (v : Vec Ideal S1x128x128 .bf16) : FVec Ideal S1x128x128 .bf16 :=
  shapeCast S1x128x128 (if g.val % 2 = 0 then select first128 (shapeCast S128x128 v shapeCasts_S1x128x128_S128x128) zero128
    else concatenate S128x128 1 [⟨S128x64, extractStridedSlice S128x64 ![0, 64] (shapeCast S128x128 v shapeCasts_S1x128x128_S128x128) slices_S128x128_o0_64_S128x64⟩,
      ⟨S128x64, extractStridedSlice S128x64 ![0, 0] zero128 slices_S128x128_o0_0_S128x64⟩] concatenates_S128x64_S128x64_S128x128_d1) shapeCasts_S128x128_S1x128x128

/-- Head `g` of two heads side by side, in the last 64 lanes. -/
def hiPart128 (g : Fin 4) (v : Vec Ideal S1x128x128 .bf16) : FVec Ideal S1x128x128 .bf16 :=
  shapeCast S1x128x128 (if g.val % 2 = 0 then
      concatenate S128x128 1 [⟨S128x64, extractStridedSlice S128x64 ![0, 0] zero128 slices_S128x128_o0_0_S128x64⟩,
        ⟨S128x64, extractStridedSlice S128x64 ![0, 0] (shapeCast S128x128 v shapeCasts_S1x128x128_S128x128) slices_S128x128_o0_0_S128x64⟩] concatenates_S128x64_S128x64_S128x128_d1
    else select first128 zero128 (shapeCast S128x128 v shapeCasts_S1x128x128_S128x128)) shapeCasts_S128x128_S1x128x128

theorem loPart128_apply (g : Fin 4) (v : Vec Ideal S1x128x128 .bf16) (r : Fin 128) (l : Fin 128) :
    loPart128 g v (ix3 0 r l) = if h : l.val < 64 then v (ix3 0 r ⟨64 * (g.val % 2) + l.val, by omega⟩) else 0 := by
  have hs : (BitVec.ofNat 32 l.val).slt 64#32 = decide (l.val < 64) := by revert l; decide
  fin_cases g <;> pointwise [loPart128, first128, zero128] <;> simp [Scalar.select, IntOp.cmpi, hs, ofBool_one] <;> split_ifs <;>
    first | rfl | exact congrArg (fun l => v (ix3 0 r l)) (Fin.ext (by dsimp only; omega)) | (exfalso; omega)

theorem hiPart128_apply (g : Fin 4) (v : Vec Ideal S1x128x128 .bf16) (r : Fin 128) (l : Fin 128) :
    hiPart128 g v (ix3 0 r l) = if h : l.val < 64 then 0 else v (ix3 0 r ⟨64 * (g.val % 2) + (l.val - 64), by omega⟩) := by
  have hs : (BitVec.ofNat 32 l.val).slt 64#32 = decide (l.val < 64) := by revert l; decide
  fin_cases g <;> pointwise [hiPart128, first128, zero128] <;> simp [Scalar.select, IntOp.cmpi, hs, ofBool_one] <;> split_ifs <;>
    first | rfl | exact congrArg (fun l => v (ix3 0 r l)) (Fin.ext (by dsimp only; omega)) | (exfalso; omega)

/-- 512 rows of zeros. -/
def zero512 : FVec Ideal S512x128 .bf16 := broadcast S512x128 (Scalar.ofBits .bf16 0x0000#16)

/-- Which lanes are the first 64. -/
def first512 : IVec S512x128 1 := cmpi .slt (iota .tc S512x128 32 [1] iota_S512x128_d1_w32) (broadcast S512x128 64#32)

/-- Head `g` of two heads side by side, in the first 64 lanes. -/
def loPart512 (g : Fin 4) (v : Vec Ideal S1x512x128 .bf16) : FVec Ideal S1x512x128 .bf16 :=
  shapeCast S1x512x128 (if g.val % 2 = 0 then select first512 (shapeCast S512x128 v shapeCasts_S1x512x128_S512x128) zero512
    else concatenate S512x128 1 [⟨S512x64, extractStridedSlice S512x64 ![0, 64] (shapeCast S512x128 v shapeCasts_S1x512x128_S512x128) slices_S512x128_o0_64_S512x64⟩,
      ⟨S512x64, extractStridedSlice S512x64 ![0, 0] zero512 slices_S512x128_o0_0_S512x64⟩] concatenates_S512x64_S512x64_S512x128_d1) shapeCasts_S512x128_S1x512x128

/-- Head `g` of two heads side by side, in the last 64 lanes. -/
def hiPart512 (g : Fin 4) (v : Vec Ideal S1x512x128 .bf16) : FVec Ideal S1x512x128 .bf16 :=
  shapeCast S1x512x128 (if g.val % 2 = 0 then
      concatenate S512x128 1 [⟨S512x64, extractStridedSlice S512x64 ![0, 0] zero512 slices_S512x128_o0_0_S512x64⟩,
        ⟨S512x64, extractStridedSlice S512x64 ![0, 0] (shapeCast S512x128 v shapeCasts_S1x512x128_S512x128) slices_S512x128_o0_0_S512x64⟩] concatenates_S512x64_S512x64_S512x128_d1
    else select first512 zero512 (shapeCast S512x128 v shapeCasts_S1x512x128_S512x128)) shapeCasts_S512x128_S1x512x128

theorem loPart512_apply (g : Fin 4) (v : Vec Ideal S1x512x128 .bf16) (r : Fin 512) (l : Fin 128) :
    loPart512 g v (ix3 0 r l) = if h : l.val < 64 then v (ix3 0 r ⟨64 * (g.val % 2) + l.val, by omega⟩) else 0 := by
  have hs : (BitVec.ofNat 32 l.val).slt 64#32 = decide (l.val < 64) := by revert l; decide
  fin_cases g <;> pointwise [loPart512, first512, zero512] <;> simp [Scalar.select, IntOp.cmpi, hs, ofBool_one] <;> split_ifs <;>
    first | rfl | exact congrArg (fun l => v (ix3 0 r l)) (Fin.ext (by dsimp only; omega)) | (exfalso; omega)

theorem hiPart512_apply (g : Fin 4) (v : Vec Ideal S1x512x128 .bf16) (r : Fin 512) (l : Fin 128) :
    hiPart512 g v (ix3 0 r l) = if h : l.val < 64 then 0 else v (ix3 0 r ⟨64 * (g.val % 2) + (l.val - 64), by omega⟩) := by
  have hs : (BitVec.ofNat 32 l.val).slt 64#32 = decide (l.val < 64) := by revert l; decide
  fin_cases g <;> pointwise [hiPart512, first512, zero512] <;> simp [Scalar.select, IntOp.cmpi, hs, ofBool_one] <;> split_ifs <;>
    first | rfl | exact congrArg (fun l => v (ix3 0 r l)) (Fin.ext (by dsimp only; omega)) | (exfalso; omega)

section
variable (am : Memref sig .tc .vmem S1x512x256 .bf16) (hm : am.IsWhole) (ap : Memref sig .tc .vmem S1x128x256 .bf16) (hp : ap.IsWhole)
  (an : Memref sig .tc .vmem S1x128x256 .bf16) (hn : an.IsWhole) (xm : Vec Ideal S1x512x256 .bf16) (xp xn : Vec Ideal S1x128x256 .bf16)

/-- Two heads side by side of a block of 128 rows. -/
abbrev pair128 (g : Fin 4) : Rect S1x128x256 :=
  Rect.unit (s := S1x128x256) ![0, 0, 128 * (g.val / 2)] S1x128x128.size (by intro a; fin_cases a <;> simp [S1x128x256, S1x128x128] <;> omega)

/-- Two heads side by side of a block of 512 rows. -/
abbrev pair512 (g : Fin 4) : Rect S1x512x256 :=
  Rect.unit (s := S1x512x256) ![0, 0, 128 * (g.val / 2)] S1x512x128.size (by intro a; fin_cases a <;> simp [S1x512x256, S1x512x128] <;> omega)

/-- Where 128 rows of head `g` go. -/
abbrev put128 (g : Fin 4) (o : Nat) (ho : o + 128 ≤ 768) : Rect S4x768x128 :=
  Rect.unit (s := S4x768x128) ![g.val, o, 0] S1x128x128.size (by intro a; fin_cases a <;> simp [S4x768x128, S1x128x128] <;> omega)

/-- Where 512 rows of head `g` go. -/
abbrev put512 (g : Fin 4) : Rect S4x768x128 :=
  Rect.unit (s := S4x768x128) ![g.val, 128, 0] S1x512x128.size (by intro a; fin_cases a <;> simp [S4x768x128, S1x512x128] <;> omega)

/-- The stores of the copies in the first lanes. -/
def loList : List (View.Piece (Elt Ideal) S4x768x128 .bf16) :=
  (List.ofFn fun k : Fin 4 => ⟨put128 k.rev 640 (by decide), loPart128 k.rev (View.readAt (Elt Ideal) an.view (pair128 k.rev).toLoadRect (hn.unread xn))⟩)
  ++ (List.ofFn fun k : Fin 4 => ⟨put512 k.rev, loPart512 k.rev (View.readAt (Elt Ideal) am.view (pair512 k.rev).toLoadRect (hm.unread xm))⟩)
  ++ (List.ofFn fun k : Fin 4 => ⟨put128 k.rev 0 (by decide), loPart128 k.rev (View.readAt (Elt Ideal) ap.view (pair128 k.rev).toLoadRect (hp.unread xp))⟩)

/-- The stores of the copies in the last lanes. -/
def hiList : List (View.Piece (Elt Ideal) S4x768x128 .bf16) :=
  (List.ofFn fun k : Fin 4 => ⟨put128 k.rev 640 (by decide), hiPart128 k.rev (View.readAt (Elt Ideal) an.view (pair128 k.rev).toLoadRect (hn.unread xn))⟩)
  ++ (List.ofFn fun k : Fin 4 => ⟨put512 k.rev, hiPart512 k.rev (View.readAt (Elt Ideal) am.view (pair512 k.rev).toLoadRect (hm.unread xm))⟩)
  ++ (List.ofFn fun k : Fin 4 => ⟨put128 k.rev 0 (by decide), hiPart128 k.rev (View.readAt (Elt Ideal) ap.view (pair128 k.rev).toLoadRect (hp.unread xp))⟩)
end

/-! ### scores -/

/-- The queries' two pairs of heads, one under the other. -/
def qRows (q0 q1 : Vec Ideal S1x128x128 .bf16) : FVec Ideal S256x128 .bf16 :=
  concatenate S256x128 0 [⟨S128x128, shapeCast S128x128 q0 shapeCasts_S1x128x128_S128x128⟩, ⟨S128x128, shapeCast S128x128 q1 shapeCasts_S1x128x128_S128x128⟩] concatenates_S128x128_S128x128_S256x128_d0

/-- Two copies of 384 rows, one under the other. -/
def kvRows (k0 k1 : Vec Ideal S1x384x128 .bf16) : FVec Ideal S768x128 .bf16 :=
  concatenate S768x128 0 [⟨S384x128, shapeCast S384x128 k0 shapeCasts_S1x384x128_S384x128⟩, ⟨S384x128, shapeCast S384x128 k1 shapeCasts_S1x384x128_S384x128⟩] concatenates_S384x128_S384x128_S768x128_d0

/-- The scores of one key head and 128 queries: the queries' two pairs of heads against the two copies of the keys. -/
def scores (q0 q1 : Vec Ideal S1x128x128 .bf16) (k0 k1 : Vec Ideal S1x384x128 .bf16) : FVec Ideal S1x256x768 .f32 :=
  shapeCast S1x256x768 (matmul dot_S256x128_S768x128_S256x768_1_1_0_0_n_n none (qRows q0 q1) (kvRows k0 k1)
    (constant S256x768 .f32 0x00000000#32)) shapeCasts_S256x768_S1x256x768

/-- 128 queries of one pair of heads. -/
abbrev qRect (j g : Fin 4) (p : Fin 2) : Rect S1x512x1024 :=
  Rect.unit (s := S1x512x1024) ![0, 128 * j.val, 256 * g.val + 128 * p.val] S1x128x128.size (by intro a; fin_cases a <;> simp [S1x512x1024, S1x128x128] <;> omega)

/-- The 384 keys around block `j`. -/
abbrev kvRect (j g : Fin 4) : Rect S4x768x128 :=
  Rect.unit (s := S4x768x128) ![g.val, 128 * j.val, 0] S1x384x128.size (by intro a; fin_cases a <;> simp [S4x768x128, S1x384x128] <;> omega)

abbrev sAll (g : Fin 4) : Rect S4x256x768 :=
  Rect.unit (s := S4x256x768) ![g.val, 0, 0] S1x256x768.size (by intro a; fin_cases a <;> simp [S4x256x768, S1x256x768] <;> omega)

abbrev rAll (g : Fin 4) : Rect S4x256x128 :=
  Rect.unit (s := S4x256x128) ![g.val, 0, 0] S1x256x128.size (by intro a; fin_cases a <;> simp [S4x256x128, S1x256x128] <;> omega)

/-- The store of the scores of head `g` in block `j`. -/
def sPiece (arg9 : Memref sig .tc .vmem S1x512x1024 .bf16) (harg9 : arg9.IsWhole) (arg18 arg19 : Memref sig .tc .vmem S4x768x128 .bf16)
    (L0 L1 : List (View.Piece (Elt Ideal) S4x768x128 .bf16)) (x8 : Vec Ideal S1x512x1024 .bf16) (j g : Fin 4) : View.Piece (Elt Ideal) S4x256x768 .f32 :=
  ⟨sAll g, scores (View.readAt (Elt Ideal) arg9.view (qRect j g 0).toLoadRect (harg9.unread x8)) (View.readAt (Elt Ideal) arg9.view (qRect j g 1).toLoadRect (harg9.unread x8))
    (View.readCov arg18.view L0 (kvRect j g).toLoadRect) (View.readCov arg19.view L1 (kvRect j g).toLoadRect)⟩

/-! ### powers and reciprocals -/

/-- 32 rows and 128 columns of one key head's scores. -/
abbrev sRect (g : Fin 4) (ch : Fin 8) (p : Fin 6) : Rect S4x256x768 :=
  Rect.unit (s := S4x256x768) ![g.val, 32 * ch.val, 128 * p.val] S1x32x128.size (by intro a; fin_cases a <;> simp [S1x32x128, S4x256x768] <;> omega)

abbrev pRect (g : Fin 4) (ch : Fin 8) : Rect S4x256x768 :=
  Rect.unit (s := S4x256x768) ![g.val, 32 * ch.val, 0] S1x32x768.size (by intro a; fin_cases a <;> simp [S1x32x768, S4x256x768] <;> omega)

abbrev rRect (g : Fin 4) (ch : Fin 8) : Rect S4x256x128 :=
  Rect.unit (s := S4x256x128) ![g.val, 32 * ch.val, 0] S1x32x128.size (by intro a; fin_cases a <;> simp [S1x32x128, S4x256x128] <;> omega)

abbrev sinkRect (h : Fin 16) : Rect S16 := Rect.unit (s := S16) ![h.val] S1.size (by intro a; fin_cases a; simp [S1, S16])

/-- Head `h`'s sink. -/
def sinks (arg8 : Memref sig .tc .smem S16 .f32) (harg8 : arg8.IsWhole) (x7 : Vec Ideal S16 .f32) (h : Fin 16) : Elt Ideal .f32 :=
  View.readAt (Elt Ideal) arg8.view (sinkRect h).toLoadRect (harg8.unread x7) (Shape.Idx.first (show 0 < S1.numel from by decide))

/-- The query head of half `h` in chunk `ch` of key head `g`. -/
def head (g : Fin 4) (ch : Fin 8) (h : Fin 2) : Fin 16 := ⟨4 * g.val + 2 * (ch.val / 4) + h.val, by omega⟩

/-- 128 at the first tile's first block, where there is no block before; else 0. -/
def lo (i : grid0.Coords) (j : Fin 4) : BitVec 32 :=
  Scalar.select (Scalar.andi (Scalar.cmpi .eq (kernelRun0_A.sl.v89 i) 0#32) (if j.val = 0 then 1#1 else 0#1)) 128#32 0#32

/-- 128 at the last tile's last block, where there is no block after; else 0. -/
def hi (i : grid0.Coords) (j : Fin 4) : BitVec 32 :=
  Scalar.select (Scalar.andi (Scalar.cmpi .eq (kernelRun0_A.sl.v89 i) 7#32) (if j.val = 3 then 1#1 else 0#1)) 128#32 0#32

section
variable (arg22 : Memref sig .tc .vmem S4x256x768 .f32) (L : List (View.Piece (Elt Ideal) S4x256x768 .f32)) (lo hi : BitVec 32) (snk : Fin 16 → Elt Ideal .f32)

/-- One load of scores. -/
abbrev sLoad (g : Fin 4) (ch : Fin 8) (p : Fin 6) : Vec Ideal S1x32x128 .f32 := View.readCov arg22.view L (sRect g ch p).toLoadRect

/-- The store of the powers of one chunk. -/
def pPiece (g : Fin 4) (ch : Fin 8) : View.Piece (Elt Ideal) S4x256x768 .bf16 :=
  ⟨pRect g ch, probs (BitVec.ofNat 32 (32 * ch.val % 128)) lo hi (snk (head g ch 0)) (snk (head g ch 1)) (sLoad arg22 L g ch 0) (sLoad arg22 L g ch 1)
    (sLoad arg22 L g ch 2) (sLoad arg22 L g ch 3) (sLoad arg22 L g ch 4) (sLoad arg22 L g ch 5)⟩

/-- The store of the reciprocals of one chunk. -/
def rPiece (g : Fin 4) (ch : Fin 8) : View.Piece (Elt Ideal) S4x256x128 .f32 :=
  ⟨rRect g ch, recips (BitVec.ofNat 32 (32 * ch.val % 128)) lo hi (snk (head g ch 0)) (snk (head g ch 1)) (sLoad arg22 L g ch 0) (sLoad arg22 L g ch 1)
    (sLoad arg22 L g ch 2) (sLoad arg22 L g ch 3) (sLoad arg22 L g ch 4) (sLoad arg22 L g ch 5)⟩
end

/-! ### the attended values -/

/-- The powers of one key head times the two copies of the values, each row by its reciprocal. -/
def attended (v0 v1 : Vec Ideal S1x384x128 .bf16) (w : Vec Ideal S1x256x768 .bf16) (r : Vec Ideal S1x256x128 .f32) : FVec Ideal S256x128 .bf16 :=
  truncf .bf16 (mulf (matmul (φ₁ := .bf16) dot_S256x768_S768x128_S256x128_1_0_0_1_n_n none (shapeCast S256x768 w shapeCasts_S1x256x768_S256x768) (kvRows v0 v1)
      (constant S256x128 .f32 0x00000000#32)) (shapeCast S256x128 r shapeCasts_S1x256x128_S256x128)) bitsLt_bf16_f32

/-- The rows of one pair of heads. -/
def outPart (p : Fin 2) (v0 v1 : Vec Ideal S1x384x128 .bf16) (w : Vec Ideal S1x256x768 .bf16) (r : Vec Ideal S1x256x128 .f32) : FVec Ideal S1x128x128 .bf16 :=
  shapeCast S1x128x128 (if p = 0 then extractStridedSlice S128x128 ![0, 0] (attended v0 v1 w r) slices_S256x128_o0_0_S128x128
    else extractStridedSlice S128x128 ![128, 0] (attended v0 v1 w r) slices_S256x128_o128_0_S128x128) shapeCasts_S128x128_S1x128x128

/-- The store of the attended values of one pair of heads in block `j`. -/
def oPiece (arg20 arg21 : Memref sig .tc .vmem S4x768x128 .bf16) (arg23 : Memref sig .tc .vmem S4x256x768 .bf16) (arg24 : Memref sig .tc .vmem S4x256x128 .f32)
    (L2 L3 : List (View.Piece (Elt Ideal) S4x768x128 .bf16)) (P : List (View.Piece (Elt Ideal) S4x256x768 .bf16)) (R : List (View.Piece (Elt Ideal) S4x256x128 .f32))
    (j g : Fin 4) (p : Fin 2) : View.Piece (Elt Ideal) S1x512x1024 .bf16 :=
  ⟨qRect j g p, outPart p (View.readCov arg20.view L2 (kvRect j g).toLoadRect) (View.readCov arg21.view L3 (kvRect j g).toLoadRect)
    (View.readCov arg23.view P (sAll g).toLoadRect) (View.readCov arg24.view R (rAll g).toLoadRect)⟩

end Cert.AttWords

end
-- ==== Proof.AttWords.lean ====
/-
  THE ATTENTION'S LISTS OF STORES: buffer by buffer, the body's list of stores is the family AttFamilies.lean gives.
-/
module

public import proofs.«01_k».proof.Proof.AttFamilies
@[expose] public section

set_option maxRecDepth 16384

noncomputable section

namespace Cert.AttWords
open Idealize.ShloMosaic Idealize.ShloMosaic.TcCoe Idealize.SL.Sem Cert.KernelIdeal Cert.KernelIdeal.Gen Cert.AttStage

/-! ### the body's lists -/

variable (c : Dev nD) (i : grid0.Coords) (arg8 : Memref sig .tc .smem S16 .f32) (harg8 : arg8.IsWhole)
  (arg9 : Memref sig .tc .vmem S1x512x1024 .bf16) (harg9 : arg9.IsWhole) (arg10 : Memref sig .tc .vmem S1x512x256 .bf16) (harg10 : arg10.IsWhole)
  (arg11 : Memref sig .tc .vmem S1x128x256 .bf16) (harg11 : arg11.IsWhole) (arg12 : Memref sig .tc .vmem S1x128x256 .bf16) (harg12 : arg12.IsWhole)
  (arg13 : Memref sig .tc .vmem S1x512x256 .bf16) (harg13 : arg13.IsWhole)
  (arg14 : Memref sig .tc .vmem S1x128x256 .bf16) (harg14 : arg14.IsWhole) (arg15 : Memref sig .tc .vmem S1x128x256 .bf16) (harg15 : arg15.IsWhole)
  (arg18 arg19 arg20 arg21 : Memref sig .tc .vmem S4x768x128 .bf16)
  (arg22 : Memref sig .tc .vmem S4x256x768 .f32) (arg23 : Memref sig .tc .vmem S4x256x768 .bf16) (arg24 : Memref sig .tc .vmem S4x256x128 .f32)
  (x7 : Vec Ideal S16 .f32) (x8 : Vec Ideal S1x512x1024 .bf16) (x9 : Vec Ideal S1x512x256 .bf16) (x10 x11 : Vec Ideal S1x128x256 .bf16)
  (x12 : Vec Ideal S1x512x256 .bf16) (x13 x14 : Vec Ideal S1x128x256 .bf16)

theorem k_lo : kernelRun0_A.sl.HS0_12 (F := Ideal) c arg10 harg10 arg11 harg11 arg12 harg12 x9 x10 x11 = loList arg10 harg10 arg11 harg11 arg12 harg12 x9 x10 x11 := by sl_kernel_rfl

theorem k_hi : kernelRun0_A.sl.HS1_12 (F := Ideal) c arg10 harg10 arg11 harg11 arg12 harg12 x9 x10 x11 = hiList arg10 harg10 arg11 harg11 arg12 harg12 x9 x10 x11 := by sl_kernel_rfl

theorem v_lo : kernelRun0_A.sl.HS2_12 (F := Ideal) c arg13 harg13 arg14 harg14 arg15 harg15 x12 x13 x14 = loList arg13 harg13 arg14 harg14 arg15 harg15 x12 x13 x14 := by sl_kernel_rfl

theorem v_hi : kernelRun0_A.sl.HS3_12 (F := Ideal) c arg13 harg13 arg14 harg14 arg15 harg15 x12 x13 x14 = hiList arg13 harg13 arg14 harg14 arg15 harg15 x12 x13 x14 := by sl_kernel_rfl

/-- The stores into the scores' buffer up to block `j`. -/
def sList (j : Fin 4) : List (View.Piece (Elt Ideal) S4x256x768 .f32) := match j with
  | 0 => kernelRun0_A.sl.HS4_4 c arg9 harg9 arg10 harg10 arg11 harg11 arg12 harg12 arg18 arg19 x8 x9 x10 x11
  | 1 => kernelRun0_A.sl.HS4_8 c arg9 harg9 arg10 harg10 arg11 harg11 arg12 harg12 arg18 arg19 x8 x9 x10 x11
  | 2 => kernelRun0_A.sl.HS4_12 c arg9 harg9 arg10 harg10 arg11 harg11 arg12 harg12 arg18 arg19 x8 x9 x10 x11
  | 3 => kernelRun0_A.sl.HS4_16 c arg9 harg9 arg10 harg10 arg11 harg11 arg12 harg12 arg18 arg19 x8 x9 x10 x11

/-- The stores into the powers' buffer up to block `j`. -/
def pList (j : Fin 4) : List (View.Piece (Elt Ideal) S4x256x768 .bf16) := match j with
  | 0 => kernelRun0_A.sl.HS5_32 c i arg8 harg8 arg9 harg9 arg10 harg10 arg11 harg11 arg12 harg12 arg18 arg19 arg22 x7 x8 x9 x10 x11
  | 1 => kernelRun0_A.sl.HS5_64 c i arg8 harg8 arg9 harg9 arg10 harg10 arg11 harg11 arg12 harg12 arg18 arg19 arg22 x7 x8 x9 x10 x11
  | 2 => kernelRun0_A.sl.HS5_96 c i arg8 harg8 arg9 harg9 arg10 harg10 arg11 harg11 arg12 harg12 arg18 arg19 arg22 x7 x8 x9 x10 x11
  | 3 => kernelRun0_A.sl.HS5_128 c i arg8 harg8 arg9 harg9 arg10 harg10 arg11 harg11 arg12 harg12 arg18 arg19 arg22 x7 x8 x9 x10 x11

/-- The stores into the reciprocals' buffer up to block `j`. -/
def rList (j : Fin 4) : List (View.Piece (Elt Ideal) S4x256x128 .f32) := match j with
  | 0 => kernelRun0_A.sl.HS6_32 c i arg8 harg8 arg9 harg9 arg10 harg10 arg11 harg11 arg12 harg12 arg18 arg19 arg22 x7 x8 x9 x10 x11
  | 1 => kernelRun0_A.sl.HS6_64 c i arg8 harg8 arg9 harg9 arg10 harg10 arg11 harg11 arg12 harg12 arg18 arg19 arg22 x7 x8 x9 x10 x11
  | 2 => kernelRun0_A.sl.HS6_96 c i arg8 harg8 arg9 harg9 arg10 harg10 arg11 harg11 arg12 harg12 arg18 arg19 arg22 x7 x8 x9 x10 x11
  | 3 => kernelRun0_A.sl.HS6_128 c i arg8 harg8 arg9 harg9 arg10 harg10 arg11 harg11 arg12 harg12 arg18 arg19 arg22 x7 x8 x9 x10 x11

theorem s_list0 : sList c arg9 harg9 arg10 harg10 arg11 harg11 arg12 harg12 arg18 arg19 x8 x9 x10 x11 0
    = (List.ofFn fun k : Fin 4 => sPiece arg9 harg9 arg18 arg19 (kernelRun0_A.sl.HS0_12 c arg10 harg10 arg11 harg11 arg12 harg12 x9 x10 x11) (kernelRun0_A.sl.HS1_12 c arg10 harg10 arg11 harg11 arg12 harg12 x9 x10 x11) x8 0 k.rev) := by sl_kernel_rfl

theorem s_list1 : sList c arg9 harg9 arg10 harg10 arg11 harg11 arg12 harg12 arg18 arg19 x8 x9 x10 x11 1
    = (List.ofFn fun k : Fin 4 => sPiece arg9 harg9 arg18 arg19 (kernelRun0_A.sl.HS0_12 c arg10 harg10 arg11 harg11 arg12 harg12 x9 x10 x11) (kernelRun0_A.sl.HS1_12 c arg10 harg10 arg11 harg11 arg12 harg12 x9 x10 x11) x8 1 k.rev) ++ sList c arg9 harg9 arg10 harg10 arg11 harg11 arg12 harg12 arg18 arg19 x8 x9 x10 x11 0 := by sl_kernel_rfl

theorem s_list2 : sList c arg9 harg9 arg10 harg10 arg11 harg11 arg12 harg12 arg18 arg19 x8 x9 x10 x11 2
    = (List.ofFn fun k : Fin 4 => sPiece arg9 harg9 arg18 arg19 (kernelRun0_A.sl.HS0_12 c arg10 harg10 arg11 harg11 arg12 harg12 x9 x10 x11) (kernelRun0_A.sl.HS1_12 c arg10 harg10 arg11 harg11 arg12 harg12 x9 x10 x11) x8 2 k.rev) ++ sList c arg9 harg9 arg10 harg10 arg11 harg11 arg12 harg12 arg18 arg19 x8 x9 x10 x11 1 := by sl_kernel_rfl

theorem s_list3 : sList c arg9 harg9 arg10 harg10 arg11 harg11 arg12 harg12 arg18 arg19 x8 x9 x10 x11 3
    = (List.ofFn fun k : Fin 4 => sPiece arg9 harg9 arg18 arg19 (kernelRun0_A.sl.HS0_12 c arg10 harg10 arg11 harg11 arg12 harg12 x9 x10 x11) (kernelRun0_A.sl.HS1_12 c arg10 harg10 arg11 harg11 arg12 harg12 x9 x10 x11) x8 3 k.rev) ++ sList c arg9 harg9 arg10 harg10 arg11 harg11 arg12 harg12 arg18 arg19 x8 x9 x10 x11 2 := by sl_kernel_rfl

theorem p_list0 : pList c i arg8 harg8 arg9 harg9 arg10 harg10 arg11 harg11 arg12 harg12 arg18 arg19 arg22 x7 x8 x9 x10 x11 0
    = (List.ofFn fun k : Fin 32 => pPiece arg22 (sList c arg9 harg9 arg10 harg10 arg11 harg11 arg12 harg12 arg18 arg19 x8 x9 x10 x11 0) (lo i 0) (hi i 0) (sinks arg8 harg8 x7) ⟨3 - k.val / 8, by omega⟩ ⟨7 - k.val % 8, by omega⟩) := by sl_kernel_rfl

theorem p_list1 : pList c i arg8 harg8 arg9 harg9 arg10 harg10 arg11 harg11 arg12 harg12 arg18 arg19 arg22 x7 x8 x9 x10 x11 1
    = (List.ofFn fun k : Fin 32 => pPiece arg22 (sList c arg9 harg9 arg10 harg10 arg11 harg11 arg12 harg12 arg18 arg19 x8 x9 x10 x11 1) (lo i 1) (hi i 1) (sinks arg8 harg8 x7) ⟨3 - k.val / 8, by omega⟩ ⟨7 - k.val % 8, by omega⟩) ++ pList c i arg8 harg8 arg9 harg9 arg10 harg10 arg11 harg11 arg12 harg12 arg18 arg19 arg22 x7 x8 x9 x10 x11 0 := by sl_kernel_rfl

theorem p_list2 : pList c i arg8 harg8 arg9 harg9 arg10 harg10 arg11 harg11 arg12 harg12 arg18 arg19 arg22 x7 x8 x9 x10 x11 2
    = (List.ofFn fun k : Fin 32 => pPiece arg22 (sList c arg9 harg9 arg10 harg10 arg11 harg11 arg12 harg12 arg18 arg19 x8 x9 x10 x11 2) (lo i 2) (hi i 2) (sinks arg8 harg8 x7) ⟨3 - k.val / 8, by omega⟩ ⟨7 - k.val % 8, by omega⟩) ++ pList c i arg8 harg8 arg9 harg9 arg10 harg10 arg11 harg11 arg12 harg12 arg18 arg19 arg22 x7 x8 x9 x10 x11 1 := by sl_kernel_rfl

theorem p_list3 : pList c i arg8 harg8 arg9 harg9 arg10 harg10 arg11 harg11 arg12 harg12 arg18 arg19 arg22 x7 x8 x9 x10 x11 3
    = (List.ofFn fun k : Fin 32 => pPiece arg22 (sList c arg9 harg9 arg10 harg10 arg11 harg11 arg12 harg12 arg18 arg19 x8 x9 x10 x11 3) (lo i 3) (hi i 3) (sinks arg8 harg8 x7) ⟨3 - k.val / 8, by omega⟩ ⟨7 - k.val % 8, by omega⟩) ++ pList c i arg8 harg8 arg9 harg9 arg10 harg10 arg11 harg11 arg12 harg12 arg18 arg19 arg22 x7 x8 x9 x10 x11 2 := by sl_kernel_rfl

theorem r_list0 : rList c i arg8 harg8 arg9 harg9 arg10 harg10 arg11 harg11 arg12 harg12 arg18 arg19 arg22 x7 x8 x9 x10 x11 0
    = (List.ofFn fun k : Fin 32 => rPiece arg22 (sList c arg9 harg9 arg10 harg10 arg11 harg11 arg12 harg12 arg18 arg19 x8 x9 x10 x11 0) (lo i 0) (hi i 0) (sinks arg8 harg8 x7) ⟨3 - k.val / 8, by omega⟩ ⟨7 - k.val % 8, by omega⟩) := by sl_kernel_rfl

theorem r_list1 : rList c i arg8 harg8 arg9 harg9 arg10 harg10 arg11 harg11 arg12 harg12 arg18 arg19 arg22 x7 x8 x9 x10 x11 1
    = (List.ofFn fun k : Fin 32 => rPiece arg22 (sList c arg9 harg9 arg10 harg10 arg11 harg11 arg12 harg12 arg18 arg19 x8 x9 x10 x11 1) (lo i 1) (hi i 1) (sinks arg8 harg8 x7) ⟨3 - k.val / 8, by omega⟩ ⟨7 - k.val % 8, by omega⟩) ++ rList c i arg8 harg8 arg9 harg9 arg10 harg10 arg11 harg11 arg12 harg12 arg18 arg19 arg22 x7 x8 x9 x10 x11 0 := by sl_kernel_rfl

theorem r_list2 : rList c i arg8 harg8 arg9 harg9 arg10 harg10 arg11 harg11 arg12 harg12 arg18 arg19 arg22 x7 x8 x9 x10 x11 2
    = (List.ofFn fun k : Fin 32 => rPiece arg22 (sList c arg9 harg9 arg10 harg10 arg11 harg11 arg12 harg12 arg18 arg19 x8 x9 x10 x11 2) (lo i 2) (hi i 2) (sinks arg8 harg8 x7) ⟨3 - k.val / 8, by omega⟩ ⟨7 - k.val % 8, by omega⟩) ++ rList c i arg8 harg8 arg9 harg9 arg10 harg10 arg11 harg11 arg12 harg12 arg18 arg19 arg22 x7 x8 x9 x10 x11 1 := by sl_kernel_rfl

theorem r_list3 : rList c i arg8 harg8 arg9 harg9 arg10 harg10 arg11 harg11 arg12 harg12 arg18 arg19 arg22 x7 x8 x9 x10 x11 3
    = (List.ofFn fun k : Fin 32 => rPiece arg22 (sList c arg9 harg9 arg10 harg10 arg11 harg11 arg12 harg12 arg18 arg19 x8 x9 x10 x11 3) (lo i 3) (hi i 3) (sinks arg8 harg8 x7) ⟨3 - k.val / 8, by omega⟩ ⟨7 - k.val % 8, by omega⟩) ++ rList c i arg8 harg8 arg9 harg9 arg10 harg10 arg11 harg11 arg12 harg12 arg18 arg19 arg22 x7 x8 x9 x10 x11 2 := by sl_kernel_rfl

/-- The stores into the result's block: four blocks of queries, four key heads, two pairs of heads. -/
def oList : List (View.Piece (Elt Ideal) S1x512x1024 .bf16) :=
  List.ofFn fun k : Fin 32 => oPiece arg20 arg21 arg23 arg24 (kernelRun0_A.sl.HS2_12 c arg13 harg13 arg14 harg14 arg15 harg15 x12 x13 x14) (kernelRun0_A.sl.HS3_12 c arg13 harg13 arg14 harg14 arg15 harg15 x12 x13 x14)
    (pList c i arg8 harg8 arg9 harg9 arg10 harg10 arg11 harg11 arg12 harg12 arg18 arg19 arg22 x7 x8 x9 x10 x11 ⟨3 - k.val / 8, by omega⟩) (rList c i arg8 harg8 arg9 harg9 arg10 harg10 arg11 harg11 arg12 harg12 arg18 arg19 arg22 x7 x8 x9 x10 x11 ⟨3 - k.val / 8, by omega⟩)
    ⟨3 - k.val / 8, by omega⟩ ⟨3 - k.val % 8 / 2, by omega⟩ ⟨1 - k.val % 2, by omega⟩

theorem o_list (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S4096x1024 .bf16) (harg6 : arg6.IsWhole) (arg7 : Memref sig .tc .vmem S1x1024 .f32) (harg7 : arg7.IsWhole) (arg16 : Memref sig .tc .vmem S512x1024 .f32) (harg16 : arg16.IsWhole) (arg17 : Memref sig .tc .vmem S1x512x1024 .bf16) (harg17 : arg17.IsWhole)
    (harg18 : arg18.IsWhole) (harg19 : arg19.IsWhole) (harg20 : arg20.IsWhole) (harg21 : arg21.IsWhole) (harg22 : arg22.IsWhole) (harg23 : arg23.IsWhole) (harg24 : arg24.IsWhole)
    (x0 : Vec Ideal S512x1024 .f32) (x1 : Vec Ideal S512x1024 .bf16) (x2 : Vec Ideal S1024x1024 .bf16) (x3 : Vec Ideal S1x1024 .f32) (x4 : Vec Ideal S1024x4096 .bf16) (x5 : Vec Ideal S4096x1024 .bf16) (x6 : Vec Ideal S1x1024 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.1
      = oList c i arg8 harg8 arg9 harg9 arg10 harg10 arg11 harg11 arg12 harg12 arg13 harg13 arg14 harg14 arg15 harg15 arg18 arg19 arg20 arg21 arg22 arg23 arg24 x7 x8 x9 x10 x11 x12 x13 x14 := by
  sl_kernel_rfl

end Cert.AttWords

end
-- ==== Proof.AttRead.lean ====
/-
  THE ATTENTION'S BUFFERS READ AT AN INDEX: the two copies of the keys and of the values, and the scores, as functions of the
  blocks the body loads.
-/
module

public import proofs.«01_k».proof.Proof.AttWords
public import Idealize.ShloMosaic.Lib.WholeRead
public import Idealize.ShloMosaic.Lib.Pipeline.CanonAppend
@[expose] public section

set_option maxRecDepth 16384

noncomputable section

namespace Cert.AttRead
open Idealize.ShloMosaic Idealize.ShloMosaic.TcCoe Idealize.SL.Sem Cert.KernelIdeal Cert.KernelIdeal.Gen Cert.AttStage Cert.AttWords

/-! ### reading through rectangles -/

theorem emb_eq {S : Shape} (off size : Fin S.rank → Nat) (inb) (x : (Rect.unit off size inb).shape.Idx) (i : S.Idx)
    (hi : ∀ a, (i a : Nat) = off a + x a) : (Rect.unit off size inb).emb x = i :=
  funext fun a => Fin.ext ((Rect.idx_unit_val off size inb x a).trans (hi a).symm)

theorem load_at {S : Shape} {e : EltTy} {sp : Space} {κ : Kind} (m : Memref sig κ sp S e) (h : m.IsWhole) (X : S.Idx → Elt Ideal e)
    (off size : Fin S.rank → Nat) (inb) (x : (Rect.unit off size inb).shape.Idx) (i : S.Idx) (hi : ∀ a, (i a : Nat) = off a + x a) :
    View.readAt (Elt Ideal) m.view (Rect.unit off size inb).toLoadRect (h.unread X) x = X i :=
  (h.readAt_unread X _ x).trans (congrArg X (emb_eq off size inb x i hi))

theorem cov_at {S : Shape} {e : EltTy} {sp : Space} {κ : Kind} (v : View sig κ sp S e) (L : List (View.Piece (Elt Ideal) S e))
    (off size : Fin S.rank → Nat) (inb) (x : (Rect.unit off size inb).shape.Idx) (i : S.Idx) (hi : ∀ a, (i a : Nat) = off a + x a) :
    View.readCov v L (Rect.unit off size inb).toLoadRect x = View.canon L i :=
  (congrFun (View.readCov_eq_canon' v L _) x).trans (congrArg (View.canon L) (emb_eq off size inb x i hi))

theorem canon_family {S : Shape} {e : EltTy} {N : Nat} (R : Fin N → Rect S) (P : (k : Fin N) → (R k).shape.Idx → Elt Ideal e)
    (rest : List (View.Piece (Elt Ideal) S e)) (G : S.Idx → Elt Ideal e) (y : S.Idx) (hc : ∃ k, y ∈ (R k).set)
    (h : ∀ k x, P k x = G ((R k).emb x)) : View.canon ((List.ofFn fun k => (⟨R k, P k⟩ : View.Piece (Elt Ideal) S e)) ++ rest) y = G y := by
  refine View.canon_append_of_pieces G rest _ ?_ y ?_
  · intro p hp
    obtain ⟨k, rfl⟩ := List.mem_ofFn.mp hp
    exact h k
  · obtain ⟨k, hk⟩ := hc
    exact ⟨_, List.mem_ofFn.mpr ⟨k, rfl⟩, hk⟩

/-! ### keys and values -/

section
variable (am : Memref sig .tc .vmem S1x512x256 .bf16) (hm : am.IsWhole) (ap : Memref sig .tc .vmem S1x128x256 .bf16) (hp : ap.IsWhole)
  (an : Memref sig .tc .vmem S1x128x256 .bf16) (hn : an.IsWhole) (xm : Vec Ideal S1x512x256 .bf16) (xp xn : Vec Ideal S1x128x256 .bf16)

/-- Row `n` of the 128 rows before the tile, its 512 rows and the 128 after. -/
def around (n : Fin 768) (d : Fin 256) : EReal :=
  if h : n.val < 128 then xp (ix3 0 ⟨n.val, h⟩ d) else if h' : n.val < 640 then xm (ix3 0 ⟨n.val - 128, by omega⟩ d)
  else xn (ix3 0 ⟨n.val - 640, by omega⟩ d)

/-- The copy in the first lanes. -/
def loAt (g : Fin 4) (n : Fin 768) (l : Fin 128) : EReal :=
  if h : l.val < 64 then around xm xp xn n ⟨64 * g.val + l.val, by omega⟩ else 0

/-- The copy in the last lanes. -/
def hiAt (g : Fin 4) (n : Fin 768) (l : Fin 128) : EReal :=
  if h : l.val < 64 then 0 else around xm xp xn n ⟨64 * g.val + (l.val - 64), by omega⟩

theorem around_prev (n : Fin 768) (d : Fin 256) (r : Fin 128) (h : n.val = r.val) : around xm xp xn n d = xp (ix3 0 r d) := by
  have : n.val < 128 := by omega
  simp only [around, this, dif_pos]
  exact congrArg (fun r => xp (ix3 0 r d)) (Fin.ext h)

theorem around_main (n : Fin 768) (d : Fin 256) (r : Fin 512) (h : n.val = 128 + r.val) : around xm xp xn n d = xm (ix3 0 r d) := by
  have h1 : ¬ n.val < 128 := by omega
  have h2 : n.val < 640 := by omega
  simp only [around, h1, h2, dif_pos, dif_neg, not_false_eq_true]
  exact congrArg (fun r => xm (ix3 0 r d)) (Fin.ext (by dsimp only; omega))

theorem around_next (n : Fin 768) (d : Fin 256) (r : Fin 128) (h : n.val = 640 + r.val) : around xm xp xn n d = xn (ix3 0 r d) := by
  have h1 : ¬ n.val < 128 := by omega
  have h2 : ¬ n.val < 640 := by omega
  simp only [around, h1, h2, dif_neg, not_false_eq_true]
  exact congrArg (fun r => xn (ix3 0 r d)) (Fin.ext (by dsimp only; omega))

theorem covered (g : Fin 4) (n : Fin 768) (l : Fin 128) :
    (∃ k : Fin 4, (ix3 g n l : S4x768x128.Idx) ∈ (put128 k.rev 640 (by decide)).set) ∨ (∃ k : Fin 4, (ix3 g n l : S4x768x128.Idx) ∈ (put512 k.rev).set)
      ∨ ∃ k : Fin 4, (ix3 g n l : S4x768x128.Idx) ∈ (put128 k.rev 0 (by decide)).set := by
  have hl := l.isLt
  have hn := n.isLt
  by_cases h1 : n.val < 128
  · refine .inr (.inr ⟨g.rev, Rect.mem_set_unit.mpr fun a => ?_⟩)
    fin_cases a <;> simp [S1x128x128] <;> omega
  by_cases h2 : n.val < 640
  · refine .inr (.inl ⟨g.rev, Rect.mem_set_unit.mpr fun a => ?_⟩)
    fin_cases a <;> simp [S1x512x128] <;> omega
  · refine .inl ⟨g.rev, Rect.mem_set_unit.mpr fun a => ?_⟩
    fin_cases a <;> simp [S1x128x128] <;> omega

theorem lo_at (g : Fin 4) (n : Fin 768) (l : Fin 128) :
    View.canon (loList am hm ap hp an hn xm xp xn) (ix3 g n l) = loAt xm xp xn g n l := by
  refine View.canon_apply_of_pieces (Val := Elt Ideal) (e := .bf16) (fun y : S4x768x128.Idx => loAt xm xp xn (y 0) (y 1) (y 2)) _ ?_ _ ?_
  · intro p hp x
    simp only [loList, List.mem_append, List.mem_ofFn] at hp
    rcases hp with (⟨k, rfl⟩ | ⟨k, rfl⟩) | ⟨k, rfl⟩
    · change S1x128x128.Idx at x
      idx_vars x
      obtain rfl : x0 = 0 := Subsingleton.elim _ _
      revert x1 x2
      intro r l
      rw [emb_eq _ _ _ _ (ix3 k.rev ⟨640 + r.val, by omega⟩ l : S4x768x128.Idx) (by intro a; fin_cases a <;> simp)]
      refine (loPart128_apply _ _ r l).trans ?_
      show _ = loAt xm xp xn k.rev ⟨640 + r.val, by omega⟩ l
      unfold loAt
      split_ifs
      · refine (load_at _ _ _ _ _ _ _ (ix3 0 r ⟨64 * k.rev.val + l.val, by omega⟩ : S1x128x256.Idx) ?_).trans (around_next xm xp xn _ _ r (by simp)).symm
        intro a; fin_cases a <;> simp <;> omega
      · rfl
    · change S1x512x128.Idx at x
      idx_vars x
      obtain rfl : x0 = 0 := Subsingleton.elim _ _
      revert x1 x2
      intro r l
      rw [emb_eq _ _ _ _ (ix3 k.rev ⟨128 + r.val, by omega⟩ l : S4x768x128.Idx) (by intro a; fin_cases a <;> simp)]
      refine (loPart512_apply _ _ r l).trans ?_
      show _ = loAt xm xp xn k.rev ⟨128 + r.val, by omega⟩ l
      unfold loAt
      split_ifs
      · refine (load_at _ _ _ _ _ _ _ (ix3 0 r ⟨64 * k.rev.val + l.val, by omega⟩ : S1x512x256.Idx) ?_).trans (around_main xm xp xn _ _ r (by simp)).symm
        intro a; fin_cases a <;> simp <;> omega
      · rfl
    · change S1x128x128.Idx at x
      idx_vars x
      obtain rfl : x0 = 0 := Subsingleton.elim _ _
      revert x1 x2
      intro r l
      rw [emb_eq _ _ _ _ (ix3 k.rev ⟨0 + r.val, by omega⟩ l : S4x768x128.Idx) (by intro a; fin_cases a <;> simp)]
      refine (loPart128_apply _ _ r l).trans ?_
      show _ = loAt xm xp xn k.rev ⟨0 + r.val, by omega⟩ l
      unfold loAt
      split_ifs
      · refine (load_at _ _ _ _ _ _ _ (ix3 0 r ⟨64 * k.rev.val + l.val, by omega⟩ : S1x128x256.Idx) ?_).trans (around_prev xm xp xn _ _ r (by simp)).symm
        intro a; fin_cases a <;> simp <;> omega
      · rfl
  · rcases covered g n l with ⟨k, hk⟩ | ⟨k, hk⟩ | ⟨k, hk⟩
    · exact ⟨_, List.mem_append_left _ (List.mem_append_left _ (List.mem_ofFn.mpr ⟨k, rfl⟩)), hk⟩
    · exact ⟨_, List.mem_append_left _ (List.mem_append_right _ (List.mem_ofFn.mpr ⟨k, rfl⟩)), hk⟩
    · exact ⟨_, List.mem_append_right _ (List.mem_ofFn.mpr ⟨k, rfl⟩), hk⟩

theorem hi_at (g : Fin 4) (n : Fin 768) (l : Fin 128) :
    View.canon (hiList am hm ap hp an hn xm xp xn) (ix3 g n l) = hiAt xm xp xn g n l := by
  refine View.canon_apply_of_pieces (Val := Elt Ideal) (e := .bf16) (fun y : S4x768x128.Idx => hiAt xm xp xn (y 0) (y 1) (y 2)) _ ?_ _ ?_
  · intro p hp x
    simp only [hiList, List.mem_append, List.mem_ofFn] at hp
    rcases hp with (⟨k, rfl⟩ | ⟨k, rfl⟩) | ⟨k, rfl⟩
    · change S1x128x128.Idx at x
      idx_vars x
      obtain rfl : x0 = 0 := Subsingleton.elim _ _
      revert x1 x2
      intro r l
      rw [emb_eq _ _ _ _ (ix3 k.rev ⟨640 + r.val, by omega⟩ l : S4x768x128.Idx) (by intro a; fin_cases a <;> simp)]
      refine (hiPart128_apply _ _ r l).trans ?_
      show _ = hiAt xm xp xn k.rev ⟨640 + r.val, by omega⟩ l
      unfold hiAt
      split_ifs
      · rfl
      · refine (load_at _ _ _ _ _ _ _ (ix3 0 r ⟨64 * k.rev.val + (l.val - 64), by omega⟩ : S1x128x256.Idx) ?_).trans (around_next xm xp xn _ _ r (by simp)).symm
        intro a; fin_cases a <;> simp <;> omega
    · change S1x512x128.Idx at x
      idx_vars x
      obtain rfl : x0 = 0 := Subsingleton.elim _ _
      revert x1 x2
      intro r l
      rw [emb_eq _ _ _ _ (ix3 k.rev ⟨128 + r.val, by omega⟩ l : S4x768x128.Idx) (by intro a; fin_cases a <;> simp)]
      refine (hiPart512_apply _ _ r l).trans ?_
      show _ = hiAt xm xp xn k.rev ⟨128 + r.val, by omega⟩ l
      unfold hiAt
      split_ifs
      · rfl
      · refine (load_at _ _ _ _ _ _ _ (ix3 0 r ⟨64 * k.rev.val + (l.val - 64), by omega⟩ : S1x512x256.Idx) ?_).trans (around_main xm xp xn _ _ r (by simp)).symm
        intro a; fin_cases a <;> simp <;> omega
    · change S1x128x128.Idx at x
      idx_vars x
      obtain rfl : x0 = 0 := Subsingleton.elim _ _
      revert x1 x2
      intro r l
      rw [emb_eq _ _ _ _ (ix3 k.rev ⟨0 + r.val, by omega⟩ l : S4x768x128.Idx) (by intro a; fin_cases a <;> simp)]
      refine (hiPart128_apply _ _ r l).trans ?_
      show _ = hiAt xm xp xn k.rev ⟨0 + r.val, by omega⟩ l
      unfold hiAt
      split_ifs
      · rfl
      · refine (load_at _ _ _ _ _ _ _ (ix3 0 r ⟨64 * k.rev.val + (l.val - 64), by omega⟩ : S1x128x256.Idx) ?_).trans (around_prev xm xp xn _ _ r (by simp)).symm
        intro a; fin_cases a <;> simp <;> omega
  · rcases covered g n l with ⟨k, hk⟩ | ⟨k, hk⟩ | ⟨k, hk⟩
    · exact ⟨_, List.mem_append_left _ (List.mem_append_left _ (List.mem_ofFn.mpr ⟨k, rfl⟩)), hk⟩
    · exact ⟨_, List.mem_append_left _ (List.mem_append_right _ (List.mem_ofFn.mpr ⟨k, rfl⟩)), hk⟩
    · exact ⟨_, List.mem_append_right _ (List.mem_ofFn.mpr ⟨k, rfl⟩), hk⟩

end

/-! ### scores -/

theorem scores_apply (q0 q1 : Vec Ideal S1x128x128 .bf16) (k0 k1 : Vec Ideal S1x384x128 .bf16) (R : Fin 256) (n : Fin 768) :
    scores q0 q1 k0 k1 (ix3 0 R n) = ∑ x : Fin 128, (if h : R.val < 128 then q0 (ix3 0 ⟨R.val, h⟩ x) else q1 (ix3 0 ⟨R.val - 128, by omega⟩ x))
      * (if h : n.val < 384 then k0 (ix3 0 ⟨n.val, h⟩ x) else k1 (ix3 0 ⟨n.val - 384, by omega⟩ x)) := by
  pointwise [scores, qRows, kvRows]

theorem attended_apply (v0 v1 : Vec Ideal S1x384x128 .bf16) (w : Vec Ideal S1x256x768 .bf16) (r : Vec Ideal S1x256x128 .f32) (R : Fin 256) (l : Fin 128) :
    attended v0 v1 w r (ix2 R l) = (∑ x : Fin 384, w (ix3 0 R ⟨x.val, by omega⟩) * v0 (ix3 0 x l)
      + ∑ x : Fin 384, w (ix3 0 R ⟨384 + x.val, by omega⟩) * v1 (ix3 0 x l)) * r (ix3 0 R l) := by
  pointwise [attended, kvRows]

theorem outPart_apply (p : Fin 2) (v0 v1 : Vec Ideal S1x384x128 .bf16) (w : Vec Ideal S1x256x768 .bf16) (r : Vec Ideal S1x256x128 .f32) (R : Fin 128) (l : Fin 128) :
    outPart p v0 v1 w r (ix3 0 R l) = attended v0 v1 w r (ix2 ⟨128 * p.val + R.val, by omega⟩ l) := by
  fin_cases p <;> pointwise [outPart]

/-- The score of query row `R` (two pairs of heads, 128 rows each) of block `j` and column `n` (the two copies of the keys, 384 rows each). -/
def scoreAt (x8 : Vec Ideal S1x512x1024 .bf16) (xm : Vec Ideal S1x512x256 .bf16) (xp xn : Vec Ideal S1x128x256 .bf16)
    (j g : Fin 4) (R : Fin 256) (n : Fin 768) : EReal :=
  ∑ l : Fin 128, x8 (ix3 0 ⟨128 * j.val + R.val % 128, by omega⟩ ⟨256 * g.val + 128 * (R.val / 128) + l.val, by omega⟩)
    * if h : n.val < 384 then loAt xm xp xn g ⟨128 * j.val + n.val, by omega⟩ l else hiAt xm xp xn g ⟨128 * j.val + (n.val - 384), by omega⟩ l

section
variable (arg9 : Memref sig .tc .vmem S1x512x1024 .bf16) (harg9 : arg9.IsWhole) (arg18 arg19 : Memref sig .tc .vmem S4x768x128 .bf16)
  (L0 L1 : List (View.Piece (Elt Ideal) S4x768x128 .bf16)) (x8 : Vec Ideal S1x512x1024 .bf16)
  (xm : Vec Ideal S1x512x256 .bf16) (xp xn : Vec Ideal S1x128x256 .bf16)

theorem s_at (h0 : ∀ g n l, View.canon L0 (ix3 g n l) = loAt xm xp xn g n l) (h1 : ∀ g n l, View.canon L1 (ix3 g n l) = hiAt xm xp xn g n l)
    (rest : List (View.Piece (Elt Ideal) S4x256x768 .f32)) (j g : Fin 4) (R : Fin 256) (n : Fin 768) :
    View.canon ((List.ofFn fun k : Fin 4 => sPiece arg9 harg9 arg18 arg19 L0 L1 x8 j k.rev) ++ rest) (ix3 g R n) = scoreAt x8 xm xp xn j g R n := by
  refine canon_family (fun k : Fin 4 => sAll k.rev) _ rest (fun y : S4x256x768.Idx => (scoreAt x8 xm xp xn j (y 0) (y 1) (y 2) : Elt Ideal .f32)) _ ?_ ?_
  · refine ⟨g.rev, Rect.mem_set_unit.mpr fun a => ?_⟩
    have hR := R.isLt
    have hn := n.isLt
    fin_cases a <;> simp [S1x256x768]
  · intro k x
    change S1x256x768.Idx at x
    idx_vars x
    obtain rfl : x0 = 0 := Subsingleton.elim _ _
    clear R n
    revert x1 x2
    intro R n
    rw [emb_eq _ _ _ _ (ix3 k.rev R n : S4x256x768.Idx) (by intro a; fin_cases a <;> simp)]
    refine (scores_apply _ _ _ _ R n).trans ?_
    show _ = scoreAt x8 xm xp xn j k.rev R n
    unfold scoreAt
    refine Finset.sum_congr rfl fun l _ => congrArg₂ (· * ·) ?_ ?_
    · split_ifs with h
      · refine load_at _ _ _ _ _ _ _ _ ?_
        intro a; fin_cases a <;> simp <;> omega
      · refine load_at _ _ _ _ _ _ _ _ ?_
        intro a; fin_cases a <;> simp <;> omega
    · split_ifs with h
      · refine (cov_at _ _ _ _ _ _ (ix3 k.rev ⟨128 * j.val + n.val, by omega⟩ l : S4x768x128.Idx) ?_).trans (h0 _ _ _)
        intro a; fin_cases a <;> simp
      · refine (cov_at _ _ _ _ _ _ (ix3 k.rev ⟨128 * j.val + (n.val - 384), by omega⟩ l : S4x768x128.Idx) ?_).trans (h1 _ _ _)
        intro a; fin_cases a <;> simp
end

end Cert.AttRead

end
-- ==== Proof.AttPower.lean ====
/-
  THE POWERS AND THE RECIPROCALS OF ONE BLOCK OF QUERIES, as functions of the scores: each row of scores outside its band is minus
  infinity, the powers are of two to the score less the row's maximum, the reciprocals one over the row's sum with the sink's.
-/
module

public import proofs.«01_k».proof.Proof.AttRead
@[expose] public section

set_option maxRecDepth 16384

noncomputable section

namespace Cert.AttPower
open Idealize.ShloMosaic Idealize.ShloMosaic.TcCoe Idealize.SL.Sem Cert.KernelIdeal Cert.KernelIdeal.Gen Cert.AttStage Cert.AttWords Cert.AttRead

/-- Two to a power. -/
abbrev two (x : EReal) : EReal := FloatOps.exp2 (F := Ideal) (φ := .f32) x

/-- The largest of a row of scores and of the sink. -/
def peak (t : Fin 384 → EReal) (σ : EReal) : EReal := max (Finset.univ.sup t) σ

/-- The sum of the powers of a row of scores and of the sink. -/
def total (t : Fin 384 → EReal) (σ : EReal) : EReal := ∑ n, two (t n - peak t σ) + two (σ - peak t σ)

/-- Key `n` of the three blocks around is in the band of row `R`. -/
def band (a b : Nat) (R n : Nat) : Prop := (n < 128 → R % 128 + a ≤ n) ∧ (256 ≤ n → n - 256 + b ≤ R % 128)

instance (a b R n : Nat) : Decidable (band a b R n) := by unfold band; infer_instance

theorem band_prev (a b R j : Nat) (hj : j < 128) : band a b R j ↔ R % 128 + a ≤ j :=
  ⟨fun q => q.1 hj, fun q => ⟨fun _ => q, fun h => by omega⟩⟩

theorem band_mid (a b R j : Nat) (hj : j < 128) : band a b R (128 + j) := ⟨fun h => by omega, fun h => by omega⟩

theorem band_next (a b R j : Nat) : band a b R (256 + j) ↔ j + b ≤ R % 128 :=
  ⟨fun q => by have := q.2 (by omega); omega, fun q => ⟨fun h => by omega, fun _ => by omega⟩⟩

/-- A row of scores with what lies outside the band at minus infinity. -/
def rowAt (S : Fin 4 → Fin 256 → Fin 768 → EReal) (a b : Nat) (g : Fin 4) (R : Fin 256) (h : Fin 2) (n : Fin 384) : EReal :=
  if band a b R n then S g R ⟨384 * h.val + n.val, by omega⟩ else ⊥

/-- The query head of half `h` in row `R` of key head `g`. -/
def qhead (g : Fin 4) (R : Fin 256) (h : Fin 2) : Fin 16 := ⟨4 * g.val + 2 * (R.val / 128) + h.val, by omega⟩

theorem rowMax_eq (t : Fin 384 → EReal) (σ : EReal) :
    rowMax (fun j => t ⟨j.val, by omega⟩) (fun j => t ⟨128 + j.val, by omega⟩) (fun j => t ⟨256 + j.val, by omega⟩) σ = peak t σ := by
  unfold rowMax peak
  congr 1
  apply le_antisymm
  · exact Finset.sup_le fun j _ => max_le (max_le (Finset.le_sup (f := t) (Finset.mem_univ _)) (Finset.le_sup (f := t) (Finset.mem_univ _)))
      (Finset.le_sup (f := t) (Finset.mem_univ _))
  · refine Finset.sup_le fun n _ => ?_
    have hn := n.isLt
    have e : ∀ k : Fin 128, max (max (t ⟨k.val, by omega⟩) (t ⟨128 + k.val, by omega⟩)) (t ⟨256 + k.val, by omega⟩)
        ≤ Finset.univ.sup fun j : Fin 128 => max (max (t ⟨j.val, by omega⟩) (t ⟨128 + j.val, by omega⟩)) (t ⟨256 + j.val, by omega⟩) := fun k =>
      Finset.le_sup (f := fun j : Fin 128 => max (max (t ⟨j.val, by omega⟩) (t ⟨128 + j.val, by omega⟩)) (t ⟨256 + j.val, by omega⟩)) (Finset.mem_univ k)
    by_cases h1 : n.val < 128
    · exact ((le_max_left _ _).trans (le_max_left _ _)).trans (e ⟨n.val, h1⟩)
    · by_cases h2 : n.val < 256
      · refine le_trans ?_ (((le_max_right _ _).trans (le_max_left _ _)).trans (e ⟨n.val - 128, by omega⟩))
        exact le_of_eq (congrArg t (Fin.ext (by dsimp only; omega)))
      · refine le_trans ?_ ((le_max_right _ _).trans (e ⟨n.val - 256, by omega⟩))
        exact le_of_eq (congrArg t (Fin.ext (by dsimp only; omega)))

theorem sum_blocks (f : Fin 384 → EReal) :
    ∑ n, f n = ∑ j : Fin 128, (f ⟨j.val, by omega⟩ + f ⟨128 + j.val, by omega⟩ + f ⟨256 + j.val, by omega⟩) := by
  rw [Finset.sum_add_distrib, Finset.sum_add_distrib]
  refine (Fin.sum_univ_add (a := 256) (b := 128) f).trans ?_
  rw [Fin.sum_univ_add (a := 128) (b := 128) fun i => f (Fin.castAdd 128 i)]
  rfl

theorem rowRec_eq (t : Fin 384 → EReal) (σ : EReal) :
    rowRec (fun j => t ⟨j.val, by omega⟩) (fun j => t ⟨128 + j.val, by omega⟩) (fun j => t ⟨256 + j.val, by omega⟩) σ = Ideal.div 1 (total t σ) := by
  unfold rowRec total
  rw [rowMax_eq, sum_blocks]

/-! ### the bands -/

theorem small : ∀ m : Fin 512, (BitVec.ofNat 32 m.val).toInt = m.val := by decide +kernel

theorem less : ∀ m : Fin 128, (BitVec.ofNat 32 m.val - 128#32).toInt = (m.val : Int) - 128 := by decide +kernel

theorem prev_iff (r q a j : Nat) (h : r + q < 128) (ha : a = 0 ∨ a = 128) (hj : j < 128) :
    (BitVec.ofNat 32 r + BitVec.ofNat 32 q + BitVec.ofNat 32 a).sle (BitVec.ofNat 32 j) = decide (r + q + a ≤ j) := by
  rw [← BitVec.ofNat_add, ← BitVec.ofNat_add, BitVec.sle_eq_decide, small ⟨r + q + a, by omega⟩, small ⟨j, by omega⟩]
  simp only [decide_eq_decide, Nat.cast_le]

theorem next_iff (r q b j : Nat) (h : r + q < 128) (hb : b = 0 ∨ b = 128) (hj : j < 128) :
    (BitVec.ofNat 32 j).sle (BitVec.ofNat 32 r + BitVec.ofNat 32 q - BitVec.ofNat 32 b) = decide (j + b ≤ r + q) := by
  rw [← BitVec.ofNat_add, BitVec.sle_eq_decide, small ⟨j, by omega⟩]
  rcases hb with rfl | rfl
  · rw [show BitVec.ofNat 32 (r + q) - BitVec.ofNat 32 0 = BitVec.ofNat 32 (r + q) from BitVec.sub_zero _, small ⟨r + q, by omega⟩]
    simp only [decide_eq_decide, Nat.cast_le]
    omega
  · rw [less ⟨r + q, h⟩]
    simp only [decide_eq_decide]
    omega

/-! ### the stores of one block -/

section
variable (arg22 : Memref sig .tc .vmem S4x256x768 .f32) (L : List (View.Piece (Elt Ideal) S4x256x768 .f32)) (a b : Nat) (ha : a = 0 ∨ a = 128)
  (hb : b = 0 ∨ b = 128) (snk : Fin 16 → Elt Ideal .f32) (S : Fin 4 → Fin 256 → Fin 768 → EReal)
  (hS : ∀ g R n, View.canon L (ix3 g R n) = S g R n)

include hS in
theorem load_score (g : Fin 4) (ch : Fin 8) (p : Fin 6) (r : Fin 32) (j : Fin 128) :
    sLoad arg22 L g ch p (ix3 0 r j) = S g ⟨32 * ch.val + r.val, by omega⟩ ⟨128 * p.val + j.val, by omega⟩ := by
  refine (cov_at _ _ _ _ _ _ (ix3 g ⟨32 * ch.val + r.val, by omega⟩ ⟨128 * p.val + j.val, by omega⟩ : S4x256x768.Idx) ?_).trans (hS _ _ _)
  intro x; fin_cases x <;> simp

include ha hS in
theorem sa_score (g : Fin 4) (ch : Fin 8) (h : Fin 2) (p : Fin 6) (hp : p.val = 3 * h.val) (r : Fin 32) (j : Fin 128) :
    sa (BitVec.ofNat 32 (32 * ch.val % 128)) (BitVec.ofNat 32 a) (sLoad arg22 L g ch p) (ix2 r j)
      = rowAt S a b g ⟨32 * ch.val + r.val, by omega⟩ h ⟨j.val, by omega⟩ := by
  rw [sa_apply, prev_iff _ _ _ _ (by omega) ha j.isLt, load_score arg22 L S hS]
  unfold rowAt
  have hr := r.isLt
  simp only [decide_eq_true_eq]
  refine if_congr ?_ (congrArg (S g _) (Fin.ext (by dsimp only; omega))) rfl
  rw [band_prev _ _ _ _ j.isLt]
  omega

include hS in
theorem sb_score (g : Fin 4) (ch : Fin 8) (h : Fin 2) (p : Fin 6) (hp : p.val = 3 * h.val + 1) (r : Fin 32) (j : Fin 128) :
    sLoad arg22 L g ch p (ix3 0 r j) = rowAt S a b g ⟨32 * ch.val + r.val, by omega⟩ h ⟨128 + j.val, by omega⟩ := by
  rw [load_score arg22 L S hS]
  unfold rowAt
  rw [if_pos (band_mid _ _ _ _ j.isLt)]
  exact congrArg (S g _) (Fin.ext (by dsimp only; omega))

include hb hS in
theorem sc_score (g : Fin 4) (ch : Fin 8) (h : Fin 2) (p : Fin 6) (hp : p.val = 3 * h.val + 2) (r : Fin 32) (j : Fin 128) :
    sc (BitVec.ofNat 32 (32 * ch.val % 128)) (BitVec.ofNat 32 b) (sLoad arg22 L g ch p) (ix2 r j)
      = rowAt S a b g ⟨32 * ch.val + r.val, by omega⟩ h ⟨256 + j.val, by omega⟩ := by
  rw [sc_apply, next_iff _ _ _ _ (by omega) hb j.isLt, load_score arg22 L S hS]
  unfold rowAt
  have hr := r.isLt
  simp only [decide_eq_true_eq]
  refine if_congr ?_ (congrArg (S g _) (Fin.ext (by dsimp only; omega))) rfl
  rw [band_next]
  omega

include ha hb hS in
theorem max_score (g : Fin 4) (ch : Fin 8) (h : Fin 2) (p q s : Fin 6) (hp : p.val = 3 * h.val) (hq : q.val = 3 * h.val + 1) (hs : s.val = 3 * h.val + 2)
    (r : Fin 32) (σ : EReal) :
    rowMax (fun j => sa (BitVec.ofNat 32 (32 * ch.val % 128)) (BitVec.ofNat 32 a) (sLoad arg22 L g ch p) (ix2 r j)) (fun j => sLoad arg22 L g ch q (ix3 0 r j))
      (fun j => sc (BitVec.ofNat 32 (32 * ch.val % 128)) (BitVec.ofNat 32 b) (sLoad arg22 L g ch s) (ix2 r j)) σ
      = peak (rowAt S a b g ⟨32 * ch.val + r.val, by omega⟩ h) σ := by
  simp only [sa_score arg22 L a b ha S hS g ch h p hp, sb_score arg22 L a b S hS g ch h q hq, sc_score arg22 L a b hb S hS g ch h s hs]
  exact rowMax_eq (rowAt S a b g ⟨32 * ch.val + r.val, by omega⟩ h) σ

include ha hb hS in
theorem rec_score (g : Fin 4) (ch : Fin 8) (h : Fin 2) (p q s : Fin 6) (hp : p.val = 3 * h.val) (hq : q.val = 3 * h.val + 1) (hs : s.val = 3 * h.val + 2)
    (r : Fin 32) (σ : Elt Ideal .f32) :
    rc (BitVec.ofNat 32 (32 * ch.val % 128)) (BitVec.ofNat 32 a) (BitVec.ofNat 32 b) σ (sLoad arg22 L g ch p) (sLoad arg22 L g ch q) (sLoad arg22 L g ch s) (ix2 r 0)
      = Ideal.div 1 (total (rowAt S a b g ⟨32 * ch.val + r.val, by omega⟩ h) (sk σ)) := by
  rw [rc_apply]
  simp only [sa_score arg22 L a b ha S hS g ch h p hp, sb_score arg22 L a b S hS g ch h q hq, sc_score arg22 L a b hb S hS g ch h s hs]
  exact rowRec_eq (rowAt S a b g ⟨32 * ch.val + r.val, by omega⟩ h) (sk σ)

include ha hb hS in
theorem chunk_powers (g : Fin 4) (ch : Fin 8) (h : Fin 2) (p : Fin 3) (j : Fin 128) (m : Fin 384) (n : Fin 768) (hm : m.val = 128 * p.val + j.val)
    (hn : n.val = 384 * h.val + 128 * p.val + j.val) (r : Fin 32) :
    probs (BitVec.ofNat 32 (32 * ch.val % 128)) (BitVec.ofNat 32 a) (BitVec.ofNat 32 b) (snk (head g ch 0)) (snk (head g ch 1)) (sLoad arg22 L g ch 0) (sLoad arg22 L g ch 1)
      (sLoad arg22 L g ch 2) (sLoad arg22 L g ch 3) (sLoad arg22 L g ch 4) (sLoad arg22 L g ch 5) (ix3 0 r n)
      = two (rowAt S a b g ⟨32 * ch.val + r.val, by omega⟩ h m - peak (rowAt S a b g ⟨32 * ch.val + r.val, by omega⟩ h) (sk (snk (head g ch h)))) := by
  rw [probs_apply _ _ _ _ _ _ _ _ _ _ _ r h p j n hn]
  have h3 := (by decide : ∀ p : Fin 3, p = 0 ∨ p = 1 ∨ p = 2) p
  have h2 := (by decide : ∀ h : Fin 2, h = 0 ∨ h = 1) h
  rcases h2 with rfl | rfl
  · simp only [↓reduceIte]
    rw [max_score arg22 L a b ha hb S hS g ch 0 0 1 2 rfl rfl rfl]
    refine congrArg (fun x => two (x - _)) ?_
    rcases h3 with rfl | rfl | rfl
    · exact (sa_score arg22 L a b ha S hS g ch 0 0 rfl r j).trans (congrArg _ (Fin.ext (by rw [hm]; simp)))
    · exact (sb_score arg22 L a b S hS g ch 0 1 rfl r j).trans (congrArg _ (Fin.ext (by rw [hm]; simp)))
    · exact (sc_score arg22 L a b hb S hS g ch 0 2 rfl r j).trans (congrArg _ (Fin.ext (by rw [hm]; simp)))
  · simp only [show ¬ ((1 : Fin 2) = 0) from by decide, if_false]
    rw [max_score arg22 L a b ha hb S hS g ch 1 3 4 5 rfl rfl rfl]
    refine congrArg (fun x => two (x - _)) ?_
    rcases h3 with rfl | rfl | rfl
    · exact (sa_score arg22 L a b ha S hS g ch 1 3 rfl r j).trans (congrArg _ (Fin.ext (by rw [hm]; simp)))
    · exact (sb_score arg22 L a b S hS g ch 1 4 rfl r j).trans (congrArg _ (Fin.ext (by rw [hm]; simp)))
    · exact (sc_score arg22 L a b hb S hS g ch 1 5 rfl r j).trans (congrArg _ (Fin.ext (by rw [hm]; simp)))

/-- The power of column `n` (two halves of 384 keys) in row `R`. -/
def powAt (g : Fin 4) (R : Fin 256) (n : Fin 768) : EReal :=
  two (rowAt S a b g R ⟨n.val / 384, by omega⟩ ⟨n.val % 384, by omega⟩
    - peak (rowAt S a b g R ⟨n.val / 384, by omega⟩) (sk (snk (qhead g R ⟨n.val / 384, by omega⟩))))

/-- One over the sum of row `R`'s half that lane `l` belongs to. -/
def recAt (g : Fin 4) (R : Fin 256) (l : Fin 128) : EReal :=
  Ideal.div 1 (total (rowAt S a b g R ⟨l.val / 64, by omega⟩) (sk (snk (qhead g R ⟨l.val / 64, by omega⟩))))

include ha hb hS in
theorem p_piece (g : Fin 4) (ch : Fin 8) (x : S1x32x768.Idx) :
    (pPiece arg22 L (BitVec.ofNat 32 a) (BitVec.ofNat 32 b) snk g ch).2 x = powAt a b snk S ((pRect g ch).emb x 0) ((pRect g ch).emb x 1) ((pRect g ch).emb x 2) := by
  idx_vars x
  obtain rfl : x0 = 0 := Subsingleton.elim _ _
  rw [emb_eq _ _ _ _ (ix3 g ⟨32 * ch.val + x1.val, by omega⟩ x2 : S4x256x768.Idx) (by intro x; fin_cases x <;> simp)]
  show _ = powAt a b snk S g ⟨32 * ch.val + x1.val, by omega⟩ x2
  refine (chunk_powers arg22 L a b ha hb snk S hS g ch ⟨x2.val / 384, by omega⟩ ⟨x2.val % 384 / 128, by omega⟩ ⟨x2.val % 128, by omega⟩ ⟨x2.val % 384, by omega⟩ x2
    (by dsimp only; omega) (by dsimp only; omega) x1).trans ?_
  unfold powAt
  have e : head g ch ⟨x2.val / 384, by omega⟩ = qhead g ⟨32 * ch.val + x1.val, by omega⟩ ⟨x2.val / 384, by omega⟩ := Fin.ext (by dsimp only [head, qhead]; omega)
  rw [e]

include ha hb hS in
theorem r_piece (g : Fin 4) (ch : Fin 8) (x : S1x32x128.Idx) :
    (rPiece arg22 L (BitVec.ofNat 32 a) (BitVec.ofNat 32 b) snk g ch).2 x = recAt a b snk S ((rRect g ch).emb x 0) ((rRect g ch).emb x 1) ((rRect g ch).emb x 2) := by
  idx_vars x
  obtain rfl : x0 = 0 := Subsingleton.elim _ _
  rw [emb_eq _ _ _ _ (ix3 g ⟨32 * ch.val + x1.val, by omega⟩ x2 : S4x256x128.Idx) (by intro x; fin_cases x <;> simp)]
  show _ = recAt a b snk S g ⟨32 * ch.val + x1.val, by omega⟩ x2
  refine (recips_apply _ _ _ _ _ _ _ _ _ _ _ x1 x2).trans ?_
  unfold recAt
  have hl := x2.isLt
  have e : ∀ h : Fin 2, head g ch h = qhead g ⟨32 * ch.val + x1.val, by omega⟩ h := fun h => Fin.ext (by simp only [head, qhead]; omega)
  split_ifs with h
  · rw [rec_score arg22 L a b ha hb S hS g ch 0 0 1 2 rfl rfl rfl, show (⟨x2.val / 64, by omega⟩ : Fin 2) = 0 from Fin.ext (by simp; omega), e]
  · rw [rec_score arg22 L a b ha hb S hS g ch 1 3 4 5 rfl rfl rfl, show (⟨x2.val / 64, by omega⟩ : Fin 2) = 1 from Fin.ext (by simp; omega), e]

include ha hb hS in
theorem p_at (rest : List (View.Piece (Elt Ideal) S4x256x768 .bf16)) (g : Fin 4) (R : Fin 256) (n : Fin 768) :
    View.canon ((List.ofFn fun k : Fin 32 => pPiece arg22 L (BitVec.ofNat 32 a) (BitVec.ofNat 32 b) snk ⟨3 - k.val / 8, by omega⟩ ⟨7 - k.val % 8, by omega⟩) ++ rest)
      (ix3 g R n) = powAt a b snk S g R n := by
  refine canon_family (fun k : Fin 32 => pRect ⟨3 - k.val / 8, by omega⟩ ⟨7 - k.val % 8, by omega⟩) _ rest
    (fun y : S4x256x768.Idx => (powAt a b snk S (y 0) (y 1) (y 2) : Elt Ideal .bf16)) _ ?_ ?_
  · refine ⟨⟨8 * (3 - g.val) + (7 - R.val / 32), by omega⟩, Rect.mem_set_unit.mpr fun x => ?_⟩
    have hR := R.isLt
    have hn := n.isLt
    have hg := g.isLt
    fin_cases x <;> simp [S1x32x768] <;> omega
  · exact fun k x => p_piece arg22 L a b ha hb snk S hS ⟨3 - k.val / 8, by omega⟩ ⟨7 - k.val % 8, by omega⟩ x

include ha hb hS in
theorem r_at (rest : List (View.Piece (Elt Ideal) S4x256x128 .f32)) (g : Fin 4) (R : Fin 256) (l : Fin 128) :
    View.canon ((List.ofFn fun k : Fin 32 => rPiece arg22 L (BitVec.ofNat 32 a) (BitVec.ofNat 32 b) snk ⟨3 - k.val / 8, by omega⟩ ⟨7 - k.val % 8, by omega⟩) ++ rest)
      (ix3 g R l) = recAt a b snk S g R l := by
  refine canon_family (fun k : Fin 32 => rRect ⟨3 - k.val / 8, by omega⟩ ⟨7 - k.val % 8, by omega⟩) _ rest
    (fun y : S4x256x128.Idx => (recAt a b snk S (y 0) (y 1) (y 2) : Elt Ideal .f32)) _ ?_ ?_
  · refine ⟨⟨8 * (3 - g.val) + (7 - R.val / 32), by omega⟩, Rect.mem_set_unit.mpr fun x => ?_⟩
    have hR := R.isLt
    have hn := l.isLt
    have hg := g.isLt
    fin_cases x <;> simp [S1x32x128] <;> omega
  · exact fun k x => r_piece arg22 L a b ha hb snk S hS ⟨3 - k.val / 8, by omega⟩ ⟨7 - k.val % 8, by omega⟩ x

end

end Cert.AttPower

end
-- ==== Proof.AttBlock.lean ====
/-
  ONE TILE OF THE ATTENTION: the block the body stores, read at an index, is the attention of its query row over the 384 keys of
  the three blocks of 128 around it, with the sink in the denominator.
-/
module

public import proofs.«01_k».proof.Proof.AttPower
@[expose] public section

set_option maxRecDepth 16384

noncomputable section

namespace Cert.AttBlock
open Idealize.ShloMosaic Idealize.ShloMosaic.TcCoe Idealize.SL.Sem Cert.KernelIdeal Cert.KernelIdeal.Gen Cert.AttStage Cert.AttWords Cert.AttRead Cert.AttPower

section
variable (x8 : Vec Ideal S1x512x1024 .bf16) (km : Vec Ideal S1x512x256 .bf16) (kp kn : Vec Ideal S1x128x256 .bf16)

/-- Query head `H` of row `r` of block `j` against key `n` of the three blocks around. -/
def score (j : Fin 4) (H : Fin 16) (r : Fin 128) (n : Fin 384) : EReal :=
  ∑ d : Fin 64, x8 (ix3 0 ⟨128 * j.val + r.val, by omega⟩ ⟨64 * H.val + d.val, by omega⟩)
    * around km kp kn ⟨128 * j.val + n.val, by omega⟩ ⟨64 * (H.val / 4) + d.val, by omega⟩

/-- That score in the band, minus infinity outside. -/
def row (a b : Nat) (j : Fin 4) (H : Fin 16) (r : Fin 128) (n : Fin 384) : EReal :=
  if band a b r n then score x8 km kp kn j H r n else ⊥

theorem sum_halves (f : Fin 128 → EReal) : ∑ l, f l = ∑ d : Fin 64, f ⟨d.val, by omega⟩ + ∑ d : Fin 64, f ⟨64 + d.val, by omega⟩ :=
  Fin.sum_univ_add (a := 64) (b := 64) f

theorem scoreAt_eq (j g : Fin 4) (R : Fin 256) (h : Fin 2) (n : Fin 384) (m : Fin 768) (hm : m.val = 384 * h.val + n.val) :
    scoreAt x8 km kp kn j g R m = score x8 km kp kn j (qhead g R h) ⟨R.val % 128, by omega⟩ n := by
  unfold scoreAt score
  rw [sum_halves]
  have h2 := (by decide : ∀ h : Fin 2, h = 0 ∨ h = 1) h
  rcases h2 with rfl | rfl
  · have hlt : m.val < 384 := by rw [hm]; simp
    simp only [dif_pos hlt]
    refine (congrArg₂ (· + ·) (Finset.sum_congr rfl fun d _ => congrArg₂ (· * ·) ?_ ?_) (Finset.sum_eq_zero fun d _ => ?_)).trans (add_zero _)
    · exact congrArg (fun z => x8 (ix3 0 _ z)) (Fin.ext (by simp [qhead]; omega))
    · unfold loAt
      rw [dif_pos d.isLt]
      exact congrArg₂ (around km kp kn) (Fin.ext (by simp [hm])) (Fin.ext (by simp [qhead]; omega))
    · unfold loAt
      rw [dif_neg (by simp), mul_zero]
  · have hge : ¬ m.val < 384 := by rw [hm]; simp
    simp only [dif_neg hge]
    refine (congrArg₂ (· + ·) (Finset.sum_eq_zero fun d _ => ?_) (Finset.sum_congr rfl fun d _ => congrArg₂ (· * ·) ?_ ?_)).trans (zero_add _)
    · unfold hiAt
      rw [dif_pos d.isLt, mul_zero]
    · exact congrArg (fun z => x8 (ix3 0 _ z)) (Fin.ext (by simp [qhead]; omega))
    · unfold hiAt
      rw [dif_neg (by simp)]
      exact congrArg₂ (around km kp kn) (Fin.ext (by simp [hm])) (Fin.ext (by simp [qhead]; omega))

theorem rowAt_eq (a b : Nat) (j g : Fin 4) (R : Fin 256) (h : Fin 2) :
    rowAt (scoreAt x8 km kp kn j) a b g R h = row x8 km kp kn a b j (qhead g R h) ⟨R.val % 128, by omega⟩ := by
  funext n
  unfold rowAt row
  have e : band a b R n ↔ band a b (R.val % 128) n := by unfold band; rw [Nat.mod_mod]
  exact if_congr e (scoreAt_eq x8 km kp kn j g R h n _ rfl) rfl

variable (vm : Vec Ideal S1x512x256 .bf16) (vp vn : Vec Ideal S1x128x256 .bf16) (snk : Fin 16 → Elt Ideal .f32)

/-- The attention of query head `H`, row `r` of block `j`, at lane `d`. -/
def attn (a b : Nat) (j : Fin 4) (H : Fin 16) (r : Fin 128) (d : Fin 64) : EReal :=
  (∑ n : Fin 384, two (row x8 km kp kn a b j H r n - peak (row x8 km kp kn a b j H r) (sk (snk H)))
      * around vm vp vn ⟨128 * j.val + n.val, by omega⟩ ⟨64 * (H.val / 4) + d.val, by omega⟩)
    * Ideal.div 1 (total (row x8 km kp kn a b j H r) (sk (snk H)))

/-- The first mask's shift: 128 in the first tile's first block. -/
def early (T : Fin 8) (j : Fin 4) : Nat := if T = 0 ∧ j = 0 then 128 else 0

/-- The second mask's shift: 128 in the last tile's last block. -/
def late (T : Fin 8) (j : Fin 4) : Nat := if T = 7 ∧ j = 3 then 128 else 0

theorem early_or (T : Fin 8) (j : Fin 4) : early T j = 0 ∨ early T j = 128 := by unfold early; split_ifs <;> simp

theorem late_or (T : Fin 8) (j : Fin 4) : late T j = 0 ∨ late T j = 128 := by unfold late; split_ifs <;> simp

/-- The block of tile `T`. -/
def blockOut (T : Fin 8) (R : Fin 512) (C : Fin 1024) : EReal :=
  attn x8 km kp kn vm vp vn snk (early T ⟨R.val / 128, by omega⟩) (late T ⟨R.val / 128, by omega⟩) ⟨R.val / 128, by omega⟩ ⟨C.val / 64, by omega⟩
    ⟨R.val % 128, by omega⟩ ⟨C.val % 64, by omega⟩

section
variable (arg20 arg21 : Memref sig .tc .vmem S4x768x128 .bf16) (arg23 : Memref sig .tc .vmem S4x256x768 .bf16) (arg24 : Memref sig .tc .vmem S4x256x128 .f32)
  (L2 L3 : List (View.Piece (Elt Ideal) S4x768x128 .bf16)) (P : List (View.Piece (Elt Ideal) S4x256x768 .bf16)) (Q : List (View.Piece (Elt Ideal) S4x256x128 .f32))

theorem o_piece (h2 : ∀ g n l, View.canon L2 (ix3 g n l) = loAt vm vp vn g n l) (h3 : ∀ g n l, View.canon L3 (ix3 g n l) = hiAt vm vp vn g n l)
    (T : Fin 8) (j g : Fin 4) (p : Fin 2)
    (hP : ∀ g R n, View.canon P (ix3 g R n) = powAt (early T j) (late T j) snk (scoreAt x8 km kp kn j) g R n)
    (hQ : ∀ g R l, View.canon Q (ix3 g R l) = recAt (early T j) (late T j) snk (scoreAt x8 km kp kn j) g R l) (x : S1x128x128.Idx) :
    (oPiece arg20 arg21 arg23 arg24 L2 L3 P Q j g p).2 x = blockOut x8 km kp kn vm vp vn snk T ((qRect j g p).emb x 1) ((qRect j g p).emb x 2) := by
  idx_vars x
  obtain rfl : x0 = 0 := Subsingleton.elim _ _
  rw [emb_eq _ _ _ _ (ix3 0 ⟨128 * j.val + x1.val, by omega⟩ ⟨256 * g.val + 128 * p.val + x2.val, by omega⟩ : S1x512x1024.Idx) (by intro x; fin_cases x <;> simp)]
  show _ = blockOut x8 km kp kn vm vp vn snk T ⟨128 * j.val + x1.val, by omega⟩ ⟨256 * g.val + 128 * p.val + x2.val, by omega⟩
  refine (outPart_apply p _ _ _ _ x1 x2).trans ((attended_apply _ _ _ _ _ _).trans ?_)
  unfold blockOut
  have e1 : (⟨(128 * j.val + x1.val) / 128, by omega⟩ : Fin 4) = j := Fin.ext (by dsimp only; omega)
  have e2 : (⟨(128 * j.val + x1.val) % 128, by omega⟩ : Fin 128) = x1 := Fin.ext (by dsimp only; omega)
  have e3 : (⟨(256 * g.val + 128 * p.val + x2.val) / 64, by omega⟩ : Fin 16) = qhead g ⟨128 * p.val + x1.val, by omega⟩ ⟨x2.val / 64, by omega⟩ := Fin.ext (by dsimp only [qhead]; omega)
  have e4 : (⟨(256 * g.val + 128 * p.val + x2.val) % 64, by omega⟩ : Fin 64) = ⟨x2.val % 64, by omega⟩ := Fin.ext (by dsimp only; omega)
  have e5 : (⟨(128 * p.val + x1.val) % 128, by omega⟩ : Fin 128) = x1 := Fin.ext (by dsimp only; omega)
  simp only [e1, e2, e3, e4]
  unfold attn
  refine congrArg₂ (· * ·) ?_ ?_
  · have hw : ∀ n : Fin 768, View.readCov arg23.view P (sAll g).toLoadRect (ix3 0 ⟨128 * p.val + x1.val, by omega⟩ n)
        = powAt (early T j) (late T j) snk (scoreAt x8 km kp kn j) g ⟨128 * p.val + x1.val, by omega⟩ n := fun n =>
      (cov_at _ _ _ _ _ _ (ix3 g ⟨128 * p.val + x1.val, by omega⟩ n : S4x256x768.Idx) (by intro a; fin_cases a <;> simp)).trans (hP _ _ _)
    have hl : ∀ n : Fin 384, View.readCov arg20.view L2 (kvRect j g).toLoadRect (ix3 0 n x2) = loAt vm vp vn g ⟨128 * j.val + n.val, by omega⟩ x2 := fun n =>
      (cov_at _ _ _ _ _ _ (ix3 g ⟨128 * j.val + n.val, by omega⟩ x2 : S4x768x128.Idx) (by intro a; fin_cases a <;> simp)).trans (h2 _ _ _)
    have hh : ∀ n : Fin 384, View.readCov arg21.view L3 (kvRect j g).toLoadRect (ix3 0 n x2) = hiAt vm vp vn g ⟨128 * j.val + n.val, by omega⟩ x2 := fun n =>
      (cov_at _ _ _ _ _ _ (ix3 g ⟨128 * j.val + n.val, by omega⟩ x2 : S4x768x128.Idx) (by intro a; fin_cases a <;> simp)).trans (h3 _ _ _)
    simp only [hw, hl, hh]
    have hp : ∀ (n : Fin 384) (m : Fin 768) (h : Fin 2) (hm : m.val = 384 * h.val + n.val), powAt (early T j) (late T j) snk (scoreAt x8 km kp kn j) g ⟨128 * p.val + x1.val, by omega⟩ m
        = two (row x8 km kp kn (early T j) (late T j) j (qhead g ⟨128 * p.val + x1.val, by omega⟩ h) x1 n
          - peak (row x8 km kp kn (early T j) (late T j) j (qhead g ⟨128 * p.val + x1.val, by omega⟩ h) x1) (sk (snk (qhead g ⟨128 * p.val + x1.val, by omega⟩ h)))) := by
      intro n m h hm
      unfold powAt
      have i1 : (⟨m.val / 384, by omega⟩ : Fin 2) = h := Fin.ext (by dsimp only; omega)
      have i2 : (⟨m.val % 384, by omega⟩ : Fin 384) = n := Fin.ext (by dsimp only; omega)
      simp only [i1, i2, rowAt_eq, e5]
    unfold loAt hiAt
    have hx := x2.isLt
    by_cases h : x2.val < 64
    · simp only [dif_pos h, mul_zero, Finset.sum_const_zero, add_zero]
      have i1 : (⟨x2.val / 64, by omega⟩ : Fin 2) = 0 := Fin.ext (by simp; omega)
      rw [i1]
      refine Finset.sum_congr rfl fun n _ => congrArg₂ (· * ·) (hp n _ 0 (by simp)) ?_
      exact congrArg (around vm vp vn _) (Fin.ext (by simp [qhead]; omega))
    · simp only [dif_neg h, mul_zero, Finset.sum_const_zero, zero_add]
      have i1 : (⟨x2.val / 64, by omega⟩ : Fin 2) = 1 := Fin.ext (by simp; omega)
      rw [i1]
      refine Finset.sum_congr rfl fun n _ => congrArg₂ (· * ·) (hp n _ 1 (by simp)) ?_
      exact congrArg (around vm vp vn _) (Fin.ext (by simp [qhead]; omega))
  · refine (cov_at _ _ _ _ _ _ (ix3 g ⟨128 * p.val + x1.val, by omega⟩ x2 : S4x256x128.Idx) (by intro a; fin_cases a <;> simp)).trans ((hQ _ _ _).trans ?_)
    unfold recAt
    simp only [rowAt_eq, e5]
end
end

/-! ### the body's own lists -/

theorem lo_eq (i : grid0.Coords) (T : Fin 8) (hT : kernelRun0_A.sl.v89 i = BitVec.ofNat 32 T.val) (j : Fin 4) : lo i j = BitVec.ofNat 32 (early T j) := by
  unfold lo
  rw [hT]
  clear hT
  revert T j
  decide +kernel

theorem hi_eq (i : grid0.Coords) (T : Fin 8) (hT : kernelRun0_A.sl.v89 i = BitVec.ofNat 32 T.val) (j : Fin 4) : hi i j = BitVec.ofNat 32 (late T j) := by
  unfold hi
  rw [hT]
  clear hT
  revert T j
  decide +kernel

section
variable (c : Dev nD) (i : grid0.Coords) (arg8 : Memref sig .tc .smem S16 .f32) (harg8 : arg8.IsWhole)
  (arg9 : Memref sig .tc .vmem S1x512x1024 .bf16) (harg9 : arg9.IsWhole) (arg10 : Memref sig .tc .vmem S1x512x256 .bf16) (harg10 : arg10.IsWhole)
  (arg11 : Memref sig .tc .vmem S1x128x256 .bf16) (harg11 : arg11.IsWhole) (arg12 : Memref sig .tc .vmem S1x128x256 .bf16) (harg12 : arg12.IsWhole)
  (arg13 : Memref sig .tc .vmem S1x512x256 .bf16) (harg13 : arg13.IsWhole)
  (arg14 : Memref sig .tc .vmem S1x128x256 .bf16) (harg14 : arg14.IsWhole) (arg15 : Memref sig .tc .vmem S1x128x256 .bf16) (harg15 : arg15.IsWhole)
  (arg18 arg19 arg20 arg21 : Memref sig .tc .vmem S4x768x128 .bf16)
  (arg22 : Memref sig .tc .vmem S4x256x768 .f32) (arg23 : Memref sig .tc .vmem S4x256x768 .bf16) (arg24 : Memref sig .tc .vmem S4x256x128 .f32)
  (x7 : Vec Ideal S16 .f32) (x8 : Vec Ideal S1x512x1024 .bf16) (x9 : Vec Ideal S1x512x256 .bf16) (x10 x11 : Vec Ideal S1x128x256 .bf16)
  (x12 : Vec Ideal S1x512x256 .bf16) (x13 x14 : Vec Ideal S1x128x256 .bf16)

theorem k0_at (g : Fin 4) (n : Fin 768) (l : Fin 128) :
    View.canon (kernelRun0_A.sl.HS0_12 (F := Ideal) c arg10 harg10 arg11 harg11 arg12 harg12 x9 x10 x11) (ix3 g n l) = loAt x9 x10 x11 g n l := by
  rw [k_lo]
  exact lo_at _ _ _ _ _ _ _ _ _ g n l

theorem k1_at (g : Fin 4) (n : Fin 768) (l : Fin 128) :
    View.canon (kernelRun0_A.sl.HS1_12 (F := Ideal) c arg10 harg10 arg11 harg11 arg12 harg12 x9 x10 x11) (ix3 g n l) = hiAt x9 x10 x11 g n l := by
  rw [k_hi]
  exact hi_at _ _ _ _ _ _ _ _ _ g n l

theorem v0_at (g : Fin 4) (n : Fin 768) (l : Fin 128) :
    View.canon (kernelRun0_A.sl.HS2_12 (F := Ideal) c arg13 harg13 arg14 harg14 arg15 harg15 x12 x13 x14) (ix3 g n l) = loAt x12 x13 x14 g n l := by
  rw [v_lo]
  exact lo_at _ _ _ _ _ _ _ _ _ g n l

theorem v1_at (g : Fin 4) (n : Fin 768) (l : Fin 128) :
    View.canon (kernelRun0_A.sl.HS3_12 (F := Ideal) c arg13 harg13 arg14 harg14 arg15 harg15 x12 x13 x14) (ix3 g n l) = hiAt x12 x13 x14 g n l := by
  rw [v_hi]
  exact hi_at _ _ _ _ _ _ _ _ _ g n l

theorem s_all (j g : Fin 4) (R : Fin 256) (n : Fin 768) :
    View.canon (sList c arg9 harg9 arg10 harg10 arg11 harg11 arg12 harg12 arg18 arg19 x8 x9 x10 x11 j) (ix3 g R n) = scoreAt x8 x9 x10 x11 j g R n := by
  match j with
  | 0 =>
    rw [s_list0, ← List.append_nil (List.ofFn _)]
    exact s_at arg9 harg9 arg18 arg19 _ _ x8 x9 x10 x11 (k0_at c arg10 harg10 arg11 harg11 arg12 harg12 x9 x10 x11) (k1_at c arg10 harg10 arg11 harg11 arg12 harg12 x9 x10 x11) _ 0 g R n
  | 1 =>
    rw [s_list1]
    exact s_at arg9 harg9 arg18 arg19 _ _ x8 x9 x10 x11 (k0_at c arg10 harg10 arg11 harg11 arg12 harg12 x9 x10 x11) (k1_at c arg10 harg10 arg11 harg11 arg12 harg12 x9 x10 x11) _ 1 g R n
  | 2 =>
    rw [s_list2]
    exact s_at arg9 harg9 arg18 arg19 _ _ x8 x9 x10 x11 (k0_at c arg10 harg10 arg11 harg11 arg12 harg12 x9 x10 x11) (k1_at c arg10 harg10 arg11 harg11 arg12 harg12 x9 x10 x11) _ 2 g R n
  | 3 =>
    rw [s_list3]
    exact s_at arg9 harg9 arg18 arg19 _ _ x8 x9 x10 x11 (k0_at c arg10 harg10 arg11 harg11 arg12 harg12 x9 x10 x11) (k1_at c arg10 harg10 arg11 harg11 arg12 harg12 x9 x10 x11) _ 3 g R n

variable (T : Fin 8) (hT : kernelRun0_A.sl.v89 i = BitVec.ofNat 32 T.val)

include hT in
theorem p_all (j g : Fin 4) (R : Fin 256) (n : Fin 768) :
    View.canon (pList c i arg8 harg8 arg9 harg9 arg10 harg10 arg11 harg11 arg12 harg12 arg18 arg19 arg22 x7 x8 x9 x10 x11 j) (ix3 g R n)
      = powAt (early T j) (late T j) (sinks arg8 harg8 x7) (scoreAt x8 x9 x10 x11 j) g R n := by
  match j with
  | 0 =>
    rw [p_list0, ← List.append_nil (List.ofFn _), lo_eq i T hT, hi_eq i T hT]
    exact p_at arg22 _ (early T 0) (late T 0) (early_or T 0) (late_or T 0) (sinks arg8 harg8 x7) (scoreAt x8 x9 x10 x11 0) (s_all c arg9 harg9 arg10 harg10 arg11 harg11 arg12 harg12 arg18 arg19 x8 x9 x10 x11 0) _ g R n
  | 1 =>
    rw [p_list1, lo_eq i T hT, hi_eq i T hT]
    exact p_at arg22 _ (early T 1) (late T 1) (early_or T 1) (late_or T 1) (sinks arg8 harg8 x7) (scoreAt x8 x9 x10 x11 1) (s_all c arg9 harg9 arg10 harg10 arg11 harg11 arg12 harg12 arg18 arg19 x8 x9 x10 x11 1) _ g R n
  | 2 =>
    rw [p_list2, lo_eq i T hT, hi_eq i T hT]
    exact p_at arg22 _ (early T 2) (late T 2) (early_or T 2) (late_or T 2) (sinks arg8 harg8 x7) (scoreAt x8 x9 x10 x11 2) (s_all c arg9 harg9 arg10 harg10 arg11 harg11 arg12 harg12 arg18 arg19 x8 x9 x10 x11 2) _ g R n
  | 3 =>
    rw [p_list3, lo_eq i T hT, hi_eq i T hT]
    exact p_at arg22 _ (early T 3) (late T 3) (early_or T 3) (late_or T 3) (sinks arg8 harg8 x7) (scoreAt x8 x9 x10 x11 3) (s_all c arg9 harg9 arg10 harg10 arg11 harg11 arg12 harg12 arg18 arg19 x8 x9 x10 x11 3) _ g R n

include hT in
theorem r_all (j g : Fin 4) (R : Fin 256) (n : Fin 128) :
    View.canon (rList c i arg8 harg8 arg9 harg9 arg10 harg10 arg11 harg11 arg12 harg12 arg18 arg19 arg22 x7 x8 x9 x10 x11 j) (ix3 g R n)
      = recAt (early T j) (late T j) (sinks arg8 harg8 x7) (scoreAt x8 x9 x10 x11 j) g R n := by
  match j with
  | 0 =>
    rw [r_list0, ← List.append_nil (List.ofFn _), lo_eq i T hT, hi_eq i T hT]
    exact r_at arg22 _ (early T 0) (late T 0) (early_or T 0) (late_or T 0) (sinks arg8 harg8 x7) (scoreAt x8 x9 x10 x11 0) (s_all c arg9 harg9 arg10 harg10 arg11 harg11 arg12 harg12 arg18 arg19 x8 x9 x10 x11 0) _ g R n
  | 1 =>
    rw [r_list1, lo_eq i T hT, hi_eq i T hT]
    exact r_at arg22 _ (early T 1) (late T 1) (early_or T 1) (late_or T 1) (sinks arg8 harg8 x7) (scoreAt x8 x9 x10 x11 1) (s_all c arg9 harg9 arg10 harg10 arg11 harg11 arg12 harg12 arg18 arg19 x8 x9 x10 x11 1) _ g R n
  | 2 =>
    rw [r_list2, lo_eq i T hT, hi_eq i T hT]
    exact r_at arg22 _ (early T 2) (late T 2) (early_or T 2) (late_or T 2) (sinks arg8 harg8 x7) (scoreAt x8 x9 x10 x11 2) (s_all c arg9 harg9 arg10 harg10 arg11 harg11 arg12 harg12 arg18 arg19 x8 x9 x10 x11 2) _ g R n
  | 3 =>
    rw [r_list3, lo_eq i T hT, hi_eq i T hT]
    exact r_at arg22 _ (early T 3) (late T 3) (early_or T 3) (late_or T 3) (sinks arg8 harg8 x7) (scoreAt x8 x9 x10 x11 3) (s_all c arg9 harg9 arg10 harg10 arg11 harg11 arg12 harg12 arg18 arg19 x8 x9 x10 x11 3) _ g R n

include hT in
theorem o_all (R : Fin 512) (C : Fin 1024) :
    View.canon (oList c i arg8 harg8 arg9 harg9 arg10 harg10 arg11 harg11 arg12 harg12 arg13 harg13 arg14 harg14 arg15 harg15 arg18 arg19 arg20 arg21 arg22 arg23 arg24 x7 x8 x9 x10 x11 x12 x13 x14) (ix3 0 R C)
      = blockOut x8 x9 x10 x11 x12 x13 x14 (sinks arg8 harg8 x7) T R C := by
  unfold oList
  rw [← List.append_nil (List.ofFn _)]
  refine canon_family (e := .bf16) (fun k : Fin 32 => qRect ⟨3 - k.val / 8, by omega⟩ ⟨3 - k.val % 8 / 2, by omega⟩ ⟨1 - k.val % 2, by omega⟩) _ []
    (fun y : S1x512x1024.Idx => (blockOut x8 x9 x10 x11 x12 x13 x14 (sinks arg8 harg8 x7) T (y 1) (y 2) : Elt Ideal .bf16)) _ ?_ ?_
  · have hR := R.isLt
    have hC := C.isLt
    refine ⟨⟨8 * (3 - R.val / 128) + 2 * (3 - C.val / 256) + (1 - C.val % 256 / 128), by omega⟩, Rect.mem_set_unit.mpr fun x => ?_⟩
    fin_cases x <;> simp [S1x128x128] <;> omega
  · exact fun k x => o_piece x8 x9 x10 x11 x12 x13 x14 (sinks arg8 harg8 x7) arg20 arg21 arg23 arg24 _ _ _ _
      (v0_at c arg13 harg13 arg14 harg14 arg15 harg15 x12 x13 x14) (v1_at c arg13 harg13 arg14 harg14 arg15 harg15 x12 x13 x14) T ⟨3 - k.val / 8, by omega⟩ ⟨3 - k.val % 8 / 2, by omega⟩ ⟨1 - k.val % 2, by omega⟩
      (p_all c i arg8 harg8 arg9 harg9 arg10 harg10 arg11 harg11 arg12 harg12 arg18 arg19 arg22 x7 x8 x9 x10 x11 T hT _) (r_all c i arg8 harg8 arg9 harg9 arg10 harg10 arg11 harg11 arg12 harg12 arg18 arg19 arg22 x7 x8 x9 x10 x11 T hT _) x
end

end Cert.AttBlock

end
-- ==== Proof.AttTile.lean ====
/-
  WHAT A GRID POINT LEAVES IN THE SECOND RESULT'S STAGING BUFFER: the attention of its tile of queries, from the blocks the
  windows hold.
-/
module

public import proofs.«01_k».proof.Proof.Scale
public import proofs.«01_k».proof.Proof.AttBlock
public import proofs.«01_k».proof.Proof.Gen.KernelIdeal.Value
@[expose] public section

set_option maxRecDepth 16384

noncomputable section

namespace Cert.AttTile
open Idealize.ShloMosaic Idealize.ShloMosaic.TcCoe Idealize.SL.Sem Cert.KernelIdeal Cert.KernelIdeal.Gen
open Cert.AttWords Cert.AttRead Cert.AttPower Cert.AttBlock

theorem sinks_eq (arg8 : Memref sig .tc .smem S16 .f32) (harg8 : arg8.IsWhole) (x7 : Vec Ideal S16 .f32) (h : Fin 16) : sinks arg8 harg8 x7 h = x7 (ix1 h) := by
  unfold sinks sinkRect
  exact load_at arg8 harg8 x7 _ _ _ _ (ix1 h) (fun a => by fin_cases a; rfl)

/-- The tile of a grid point. -/
def tile (t : Fin cfg0.N) : Fin 8 := ⟨t.val % 8, Nat.mod_lt _ (by decide)⟩

theorem tile_word : ∀ t : Fin cfg0.N, kernelRun0_A.sl.v89 (grid0.coords t) = BitVec.ofNat 32 (tile t).val :=
  (by decide +kernel : ∀ t : Fin grid0.N, kernelRun0_A.sl.v89 (grid0.coords t) = BitVec.ofNat 32 (t.val % 8))

variable (m : (ℓ : Loc nD τ sig) → Buf (Elt Ideal) ℓ)

theorem after_att (c : Dev nD) (t : Fin cfg0.N) (R : Fin 512) (C : Fin 1024) :
    (outsAt0 m c t).2 (ix3 0 R C)
      = blockOut (iblk m c 8 t) (iblk m c 9 t) (iblk m c 10 t) (iblk m c 11 t) (iblk m c 12 t) (iblk m c 13 t) (iblk m c 14 t)
          (fun h => iblk m c 7 t (ix1 h)) (tile t) R C := by
  unfold outsAt0
  dsimp only
  unfold out0_A_16
  rw [View.read_writes_junk_eq_canon, o_list, o_all (T := tile t) (hT := tile_word t)]
  congr 1
  funext h
  exact sinks_eq _ _ _ h

/-- Where the attention's windows lie: tile `t % 8` of batch `t / 8`, and the blocks of 128 keys before and after it, kept in the sequence. -/
theorem places : ∀ t : Fin cfg0.N, win0_7.index t = ![0] ∧ win0_8.index t = ![t.val / 8, t.val % 8, 0] ∧ win0_9.index t = ![t.val / 8, t.val % 8, 0]
    ∧ win0_10.index t = ![t.val / 8, 4 * (t.val % 8) - 1, 0] ∧ win0_11.index t = ![t.val / 8, min (4 * (t.val % 8) + 4) 31, 0]
    ∧ win0_12.index t = ![t.val / 8, t.val % 8, 0] ∧ win0_13.index t = ![t.val / 8, 4 * (t.val % 8) - 1, 0]
    ∧ win0_14.index t = ![t.val / 8, min (4 * (t.val % 8) + 4) 31, 0] ∧ win0_16.index t = ![t.val / 8, t.val % 8, 0] :=
  (by decide +kernel : ∀ t : Fin grid0.N, _)

theorem lt_N (t : Fin cfg0.N) : t.val < 64 := Nat.lt_of_lt_of_eq t.2 (by decide)

theorem sink_blk (c : Dev nD) (t : Fin cfg0.N) (h : Fin 16) : iblk m c 7 t (ix1 h) = m ((c : Thread nD τ).loc main_arg10) (ix1 h) := by
  blk_point [iblk, V, places t]

theorem q_here (c : Dev nD) (t : Fin cfg0.N) (R : Fin 512) (C : Fin 1024) : iblk m c 8 t (ix3 0 R C)
    = HMul.hMul (α := EReal) (β := EReal) (γ := EReal) (m ((c : Thread nD τ).loc main_arg7) (ix3 ⟨t.val / 8, by have := lt_N t; omega⟩ ⟨512 * (t.val % 8) + R.val, by omega⟩ C)) ((1 / 8 * (Real.log 2)⁻¹ : ℝ) : EReal) := by
  rw [← Cert.Scale.scale_word]
  blk_point [iblk, V, places t]

theorem k_here (c : Dev nD) (t : Fin cfg0.N) (R : Fin 512) (C : Fin 256) : iblk m c 9 t (ix3 0 R C)
    = m ((c : Thread nD τ).loc main_arg8) (ix3 ⟨t.val / 8, by have := lt_N t; omega⟩ ⟨512 * (t.val % 8) + R.val, by omega⟩ C) := by
  blk_point [iblk, V, places t]

theorem k_before (c : Dev nD) (t : Fin cfg0.N) (R : Fin 128) (C : Fin 256) : iblk m c 10 t (ix3 0 R C)
    = m ((c : Thread nD τ).loc main_arg8) (ix3 ⟨t.val / 8, by have := lt_N t; omega⟩ ⟨128 * (4 * (t.val % 8) - 1) + R.val, by omega⟩ C) := by
  blk_point [iblk, V, places t]

theorem k_after (c : Dev nD) (t : Fin cfg0.N) (R : Fin 128) (C : Fin 256) : iblk m c 11 t (ix3 0 R C)
    = m ((c : Thread nD τ).loc main_arg8) (ix3 ⟨t.val / 8, by have := lt_N t; omega⟩ ⟨128 * (min (4 * (t.val % 8) + 4) 31) + R.val, by omega⟩ C) := by
  blk_point [iblk, V, places t]

theorem v_here (c : Dev nD) (t : Fin cfg0.N) (R : Fin 512) (C : Fin 256) : iblk m c 12 t (ix3 0 R C)
    = m ((c : Thread nD τ).loc main_arg9) (ix3 ⟨t.val / 8, by have := lt_N t; omega⟩ ⟨512 * (t.val % 8) + R.val, by omega⟩ C) := by
  blk_point [iblk, V, places t]

theorem v_before (c : Dev nD) (t : Fin cfg0.N) (R : Fin 128) (C : Fin 256) : iblk m c 13 t (ix3 0 R C)
    = m ((c : Thread nD τ).loc main_arg9) (ix3 ⟨t.val / 8, by have := lt_N t; omega⟩ ⟨128 * (4 * (t.val % 8) - 1) + R.val, by omega⟩ C) := by
  blk_point [iblk, V, places t]

theorem v_after (c : Dev nD) (t : Fin cfg0.N) (R : Fin 128) (C : Fin 256) : iblk m c 14 t (ix3 0 R C)
    = m ((c : Thread nD τ).loc main_arg9) (ix3 ⟨t.val / 8, by have := lt_N t; omega⟩ ⟨128 * (min (4 * (t.val % 8) + 4) 31) + R.val, by omega⟩ C) := by
  blk_point [iblk, V, places t]

end Cert.AttTile

end
-- ==== Proof.AttMath.lean ====
/-
  THE SOFTMAX'S TWO FORMS: powers of two of scores in units of log 2 with the division after the product, and powers of e with
  the division before it, agree where no score is plus infinity and the sink is a real number.
-/
module

public import Idealize.ShloMosaic.Lib.Pipeline.ValueKit
@[expose] public section

noncomputable section

namespace Cert.AttMath
open Idealize.ShloMosaic

theorem sum_scale {ι : Type} (s : Finset ι) (f : ι → EReal) (c : ℝ) (hc : 0 ≤ c) : ∑ i ∈ s, f i * (c : EReal) = (∑ i ∈ s, f i) * (c : EReal) := by
  classical
  induction s using Finset.induction_on with
  | empty => simp
  | insert a t ha ih =>
    rw [Finset.sum_insert ha, Finset.sum_insert ha, ih,
      EReal.right_distrib_of_nonneg_of_ne_top (EReal.coe_nonneg.mpr hc) (EReal.coe_ne_top c)]

/-- One over log 2. -/
abbrev unit2 : ℝ := (Real.log 2)⁻¹

theorem unit2_pos : 0 < unit2 := inv_pos.mpr (Real.log_pos (by norm_num))

theorem scale_mono : Monotone fun x : EReal => x * (unit2 : EReal) := fun _ _ h =>
  mul_le_mul_of_nonneg_right h (EReal.coe_nonneg.mpr unit2_pos.le)

theorem sup_scale (T : Fin 384 → EReal) : (Finset.univ.sup fun n => T n * (unit2 : EReal)) = Finset.univ.sup T * (unit2 : EReal) :=
  (Finset.comp_sup_eq_sup_comp (fun x : EReal => x * (unit2 : EReal)) (fun x y => scale_mono.map_max) (EReal.bot_mul_coe_of_pos unit2_pos)).symm

/-- A row's largest score, the sink included. -/
def top (T : Fin 384 → EReal) (σ : EReal) : EReal := max (Finset.univ.sup T) σ

theorem top_scale (T : Fin 384 → EReal) (σ : EReal) : top (fun n => T n * (unit2 : EReal)) (σ * (unit2 : EReal)) = top T σ * (unit2 : EReal) := by
  unfold top
  rw [sup_scale]
  exact (scale_mono.map_max).symm

theorem top_real (T : Fin 384 → EReal) (s : ℝ) (hT : ∀ n, T n ≠ ⊤) : ∃ μ : ℝ, top T s = μ := by
  have h1 : top T s ≠ ⊤ := by
    unfold top
    refine ne_of_lt (max_lt ?_ (EReal.coe_lt_top s))
    exact (Finset.sup_lt_iff bot_lt_top).mpr fun n _ => lt_of_le_of_ne le_top (hT n)
  have h2 : top T s ≠ ⊥ := ne_of_gt (lt_of_lt_of_le (EReal.bot_lt_coe s) (le_max_right _ _))
  exact ⟨(top T s).toReal, (EReal.coe_toReal h1 h2).symm⟩

/-- The power of a score as a real number. -/
def pw (x : EReal) (μ : ℝ) : ℝ := if x = ⊥ then 0 else Real.exp (x.toReal - μ)

theorem pw_nonneg (x : EReal) (μ : ℝ) : 0 ≤ pw x μ := by unfold pw; split_ifs <;> positivity

theorem exp_eq (x : EReal) (hx : x ≠ ⊤) (μ : ℝ) : Ideal.exp (x - (μ : EReal)) = (pw x μ : EReal) := by
  induction x with
  | bot => simp only [pw, if_true, EReal.bot_sub]; rfl
  | top => exact absurd rfl hx
  | coe t => simp only [pw, EReal.coe_ne_bot, if_false, EReal.toReal_coe, ← EReal.coe_sub]; rfl

theorem exp2_eq (x : EReal) (hx : x ≠ ⊤) (μ : ℝ) : Ideal.exp2 (x * (unit2 : EReal) - (μ : EReal) * (unit2 : EReal)) = (pw x μ : EReal) := by
  induction x with
  | bot => rw [EReal.bot_mul_coe_of_pos unit2_pos]; simp only [pw, if_true, EReal.bot_sub]; rfl
  | top => exact absurd rfl hx
  | coe t =>
    simp only [pw, EReal.coe_ne_bot, if_false, EReal.toReal_coe, ← EReal.coe_sub, ← EReal.coe_mul]
    show ((Real.rpow 2 (t * unit2 - μ * unit2) : ℝ) : EReal) = _
    congr 1
    rw [Real.rpow_eq_pow, Real.rpow_def_of_pos (by norm_num)]
    congr 1
    have : Real.log 2 ≠ 0 := (Real.log_pos (by norm_num)).ne'
    unfold unit2
    field_simp

theorem coe_sum {ι : Type} (s : Finset ι) (f : ι → ℝ) : ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

/-- The two forms of a row's attention agree. -/
theorem row_eq (T : Fin 384 → EReal) (s : ℝ) (hT : ∀ n, T n ≠ ⊤) (U V : Fin 384 → EReal) (hV : ∀ n, T n ≠ ⊥ → U n = V n)
    (K : Fin 384 → EReal) (hK : ∀ n, K n = T n * (unit2 : EReal)) :
    (∑ n, Ideal.exp2 (K n - top K (s * (unit2 : EReal))) * U n)
        * Ideal.div 1 (∑ n, Ideal.exp2 (K n - top K (s * (unit2 : EReal))) + Ideal.exp2 (s * (unit2 : EReal) - top K (s * (unit2 : EReal))))
      = ∑ n, Ideal.div (Ideal.exp (T n - top T s)) (∑ n, Ideal.exp (T n - top T s) + Ideal.exp (s - top T s)) * V n := by
  obtain rfl : K = fun n => T n * (unit2 : EReal) := funext hK
  obtain ⟨μ, hμ⟩ := top_real T s hT
  rw [top_scale, hμ]
  simp only [exp_eq _ (hT _), exp2_eq _ (hT _), exp_eq _ (EReal.coe_ne_top s), exp2_eq _ (EReal.coe_ne_top s)]
  rw [← coe_sum, ← EReal.coe_add]
  have hd : (0 : ℝ) < ∑ n, pw (T n) μ + pw (s : EReal) μ :=
    add_pos_of_nonneg_of_pos (Finset.sum_nonneg fun n _ => pw_nonneg _ _) (by simp only [pw, EReal.coe_ne_bot, if_false]; positivity)
  generalize ∑ n, pw (T n) μ + pw (s : EReal) μ = D at hd ⊢
  have hdiv : ∀ x : EReal, Ideal.div x (D : EReal) = x * ((D⁻¹ : ℝ) : EReal) := fun x => by
    unfold Ideal.div
    rw [if_neg (by exact_mod_cast hd.ne'), EReal.coe_inv]
  simp only [hdiv, one_mul]
  rw [← sum_scale _ _ _ (inv_nonneg.mpr hd.le)]
  refine Finset.sum_congr rfl fun n _ => ?_
  by_cases h : T n = ⊥
  · simp [pw, h]
  · rw [hV n h, mul_right_comm]

/-- Scaled queries scale their scores. -/
theorem score_scale (q k : Fin 64 → EReal) :
    ∑ d, q d * ((1 / 8 * unit2 : ℝ) : EReal) * k d = (∑ d, q d * k d) * ((1 / 8 : ℝ) : EReal) * (unit2 : EReal) := by
  have : ∀ d, q d * ((1 / 8 * unit2 : ℝ) : EReal) * k d = q d * k d * ((1 / 8 * unit2 : ℝ) : EReal) := fun d => mul_right_comm _ _ _
  simp only [this]
  rw [sum_scale _ _ _ (mul_nonneg (by norm_num) unit2_pos.le), EReal.coe_mul, mul_assoc]

/-- A score of real queries and keys is a real number. -/
theorem score_real (q k : Fin 64 → EReal) (hq : ∀ d, ∃ r : ℝ, q d = r) (hk : ∀ d, ∃ r : ℝ, k d = r) (c : ℝ) : (∑ d, q d * k d) * (c : EReal) ≠ ⊤ := by
  choose a ha using hq
  choose b hb using hk
  simp only [ha, hb, ← EReal.coe_mul, ← coe_sum]
  exact EReal.coe_ne_top _

/-- A value whose absolute value is below plus infinity is a real number. -/
theorem real_of_abs (x : EReal) (h : max x (-x) < ⊤) : ∃ r : ℝ, x = r := by
  induction x with
  | bot => simp at h
  | top => simp at h
  | coe t => exact ⟨t, rfl⟩

end Cert.AttMath

end
-- ==== Proof.AttRef.lean ====
/-
  THE REFERENCE'S WINDOW ATTENTION, stage by stage, read at an index: keys and values of the three blocks around each block of
  queries, the band, the masked scores, the softmax with the sink, and the attended values.
-/
module

public import Idealize.ShloMosaic.Lib.Pipeline.ValueKit
public import proofs.«01_k».proof.Proof.Gen.RefIdeal.Run
public import proofs.«01_k».proof.Proof.AttMath
@[expose] public section

set_option maxRecDepth 16384

noncomputable section

namespace Cert.AttRef
open Idealize.ShloMosaic Idealize.ShloMosaic.TcCoe Idealize.SL.Sem Cert.RefIdeal Cert.RefIdeal.Gen

section
variable (a : FVec Ideal S8x4096x256 .bf16) (q : FVec Ideal S8x4096x1024 .bf16) (σ : FVec Ideal S16 .f32)

/-- Keys or values with 128 rows of zeros before and after. -/
def padded : FVec Ideal S8x4352x4x64 .f32 :=
  pad S8x4352x4x64 ![0, 128, 0, 0] ![0, 128, 0, 0] ![0, 0, 0, 0] (shapeCast _ (extf .f32 a bitsLt_bf16_f32) shapeCasts_S8x4096x256_S8x4096x4x64)
    (sitofp .f32 (constantI S_ 32 0#32)) pads_S8x4096x4x64_S8x4352x4x64_000_1281280_000_000 h_S_

/-- and in blocks of 128. -/
def blocks : FVec Ideal S8x34x128x4x64 .f32 := shapeCast _ (padded a) shapeCasts_S8x4352x4x64_S8x34x128x4x64

/-- The three blocks around each block. -/
def near : FVec Ideal S8x32x384x4x64 .f32 :=
  concatenate S8x32x384x4x64 2 [⟨S8x32x128x4x64, extractStridedSlice S8x32x128x4x64 ![0, 0, 0, 0, 0] (blocks a) slices_S8x34x128x4x64_S8x32x128x4x64_0_0_0_0_0⟩,
    ⟨S8x32x128x4x64, extractStridedSlice S8x32x128x4x64 ![0, 1, 0, 0, 0] (blocks a) slices_S8x34x128x4x64_S8x32x128x4x64_0_1_0_0_0⟩,
    ⟨S8x32x128x4x64, extractStridedSlice S8x32x128x4x64 ![0, 2, 0, 0, 0] (blocks a) slices_S8x34x128x4x64_S8x32x128x4x64_0_2_0_0_0⟩]
    concatenates_S8x32x128x4x64_S8x32x128x4x64_S8x32x128x4x64_S8x32x384x4x64_d2

/-- First query of each block. -/
def starts : IVec S32x1 32 := muli (broadcastInDim S32x1 ![0] bcast_S32_S32x1_0 (iotaInDim S32 32 0)) (broadcastInDim S32x1 ![] bcast_S_S32x1 (constantI S_ 32 128#32))

/-- Positions of the keys. -/
def kpos : IVec S32x384 32 :=
  addi (broadcastInDim S32x384 ![0, 1] bcast_S32x1_S32x384_0_1 (subi starts (broadcastInDim S32x1 ![] bcast_S_S32x1 (constantI S_ 32 128#32))))
    (broadcastInDim S32x384 ![0, 1] bcast_S1x384_S32x384_0_1 (broadcastInDim S1x384 ![1] bcast_S384_S1x384_1 (iotaInDim S384 32 0)))

/-- Positions of the queries. -/
def qpos : IVec S32x128 32 :=
  addi (broadcastInDim S32x128 ![0, 1] bcast_S32x1_S32x128_0_1 starts) (broadcastInDim S32x128 ![0, 1] bcast_S1x128_S32x128_0_1 (broadcastInDim S1x128 ![1] bcast_S128_S1x128_1 (iotaInDim S128 32 0)))

/-- Which keys a query may see. -/
def valid : IVec S32x128x384 1 :=
  andi (andi (cmpi .sle (absi (subi (broadcastInDim S32x128x384 ![0, 1, 2] bcast_S32x1x384_S32x128x384_0_1_2 (broadcastInDim S32x1x384 ![0, 2] bcast_S32x384_S32x1x384_0_2 kpos))
          (broadcastInDim S32x128x384 ![0, 1, 2] bcast_S32x128x1_S32x128x384_0_1_2 (broadcastInDim S32x128x1 ![0, 1] bcast_S32x128_S32x128x1_0_1 qpos))))
        (broadcastInDim S32x128x384 ![] bcast_S_S32x128x384 (constantI S_ 32 128#32)))
      (broadcastInDim S32x128x384 ![0, 1, 2] bcast_S32x1x384_S32x128x384_0_1_2 (broadcastInDim S32x1x384 ![0, 2] bcast_S32x384_S32x1x384_0_2 (cmpi .sge kpos (broadcastInDim S32x384 ![] bcast_S_S32x384 (constantI S_ 32 0#32))))))
    (broadcastInDim S32x128x384 ![0, 1, 2] bcast_S32x1x384_S32x128x384_0_1_2 (broadcastInDim S32x1x384 ![0, 2] bcast_S32x384_S32x1x384_0_2 (cmpi .slt kpos (broadcastInDim S32x384 ![] bcast_S_S32x384 (constantI S_ 32 4096#32)))))

/-- Queries by block and head. -/
def queries : FVec Ideal S8x32x128x4x4x64 .f32 :=
  shapeCast _ (shapeCast _ (extf .f32 q bitsLt_bf16_f32) shapeCasts_S8x4096x1024_S8x4096x16x64) shapeCasts_S8x4096x16x64_S8x32x128x4x4x64

/-- Scores, with what lies outside the band at minus infinity. -/
def masked (k : FVec Ideal S8x32x384x4x64 .f32) (w : FVec Ideal S8x32x128x4x4x64 .f32) (ok : IVec S32x128x384 1) : FVec Ideal S8x32x4x4x128x384 .f32 :=
  select (broadcastInDim S8x32x4x4x128x384 ![0, 1, 2, 3, 4, 5] bcast_S1x32x1x1x128x384_S8x32x4x4x128x384_0_1_2_3_4_5 (broadcastInDim S1x32x1x1x128x384 ![1, 4, 5] bcast_S32x128x384_S1x32x1x1x128x384_1_4_5 ok))
    (mulf (transpose S8x32x4x4x128x384 [0, 1, 2, 5, 4, 3] (Host.dotGeneral dot_S8x32x384x4x64_S8x32x128x4x4x64_S8x32x4x384x128x4_4_5_2_24_013_013 none k w) transposes_S8x32x4x384x128x4_S8x32x4x4x128x384_0_1_2_5_4_3)
      (broadcastInDim S8x32x4x4x128x384 ![] bcast_S_S8x32x4x4x128x384 (constant S_ .f32 0x3E000000#32)))
    (broadcastInDim S8x32x4x4x128x384 ![] bcast_S_S8x32x4x4x128x384 (id (constant S_ .f32 0xFF800000#32)))

/-- The sink of each head in every row. -/
def sinkRows : FVec Ideal S8x32x4x4x128 .f32 :=
  broadcastInDim S8x32x4x4x128 ![0, 1, 2, 3, 4] bcast_S1x1x4x4x1_S8x32x4x4x128_0_1_2_3_4 (broadcastInDim S1x1x4x4x1 ![2, 3] bcast_S4x4_S1x1x4x4x1_2_3 (shapeCast _ σ shapeCasts_S16_S4x4))

section
variable (t : FVec Ideal S8x32x4x4x128x384 .f32) (s : FVec Ideal S8x32x4x4x128 .f32)

/-- Row maxima, the sink included. -/
def peaks : FVec Ideal S8x32x4x4x128 .f32 :=
  maximumf (Host.reduce FloatOps.maximumf t (constant S_ .f32 0xFF800000#32) reducesTo_S8x32x4x4x128x384_S8x32x4x4x128_d5 h_S_) s

/-- One value per row, in every column. -/
def wide (u : FVec Ideal S8x32x4x4x128 .f32) : FVec Ideal S8x32x4x4x128x384 .f32 :=
  broadcastInDim S8x32x4x4x128x384 ![0, 1, 2, 3, 4, 5] bcast_S8x32x4x4x128x1_S8x32x4x4x128x384_0_1_2_3_4_5 (broadcastInDim S8x32x4x4x128x1 ![0, 1, 2, 3, 4] bcast_S8x32x4x4x128_S8x32x4x4x128x1_0_1_2_3_4 u)

/-- Powers of the scores less their row's maximum. -/
def powers : FVec Ideal S8x32x4x4x128x384 .f32 := Host.exp (subf t (wide (peaks t s)))

/-- Row sums of the powers and of the sink's. -/
def denoms : FVec Ideal S8x32x4x4x128 .f32 :=
  addf (Host.reduceAdd (powers t s) (constant S_ .f32 0x00000000#32) reducesTo_S8x32x4x4x128x384_S8x32x4x4x128_d5 h_S_) (Host.exp (subf s (peaks t s)))

/-- The attended values. -/
def attend (v : FVec Ideal S8x32x384x4x64 .f32) : FVec Ideal S8x4096x1024 .bf16 :=
  truncf .bf16 (shapeCast _ (transpose S8x32x128x4x4x64 [0, 1, 5, 2, 4, 3] (Host.dotGeneral dot_S8x32x384x4x64_S8x32x4x4x128x384_S8x32x4x64x4x128_2_5_4_34_013_012 none v
    (Host.divf (powers t s) (wide (denoms t s)))) transposes_S8x32x4x64x4x128_S8x32x128x4x4x64_0_1_5_2_4_3) shapeCasts_S8x32x128x4x4x64_S8x4096x1024) bitsLt_bf16_f32
end
end

theorem res_eq (m : (ℓ : Loc nD τ sig) → Buf (Elt Ideal) ℓ) (c : Dev nD) :
    Cert.RefIdeal.Value.res_out1 m c = attend (masked (near (m ((c.tc : Thread nD τ).loc main_arg8))) (queries (m ((c.tc : Thread nD τ).loc main_arg7))) valid)
      (sinkRows (m ((c.tc : Thread nD τ).loc main_arg10))) (near (m ((c.tc : Thread nD τ).loc main_arg9))) := by
  unfold Value.res_out1 Value.res_main_v117
  rfl

end Cert.AttRef

end
-- ==== Proof.AttKeys.lean ====
/-
  KEYS, VALUES, QUERIES AND SCORES of the reference's attention at an index.
-/
module

public import proofs.«01_k».proof.Proof.AttRef
public import Idealize.ShloMosaic.Lib.KernelVsHost
@[expose] public section

set_option maxRecDepth 16384

noncomputable section

namespace Cert.AttRef
open Idealize.ShloMosaic Idealize.ShloMosaic.TcCoe Idealize.SL.Sem Cert.RefIdeal Cert.RefIdeal.Gen

/-- Row `p − 128` of keys or values; zero outside the sequence. -/
def posAt (a : FVec Ideal S8x4096x256 .bf16) (b : Fin 8) (p : ℕ) (g : Fin 4) (d : Fin 64) : EReal :=
  if h : 128 ≤ p ∧ p < 4224 then a (ix3 b ⟨p - 128, by omega⟩ ⟨64 * g.val + d.val, by omega⟩) else 0

theorem blocks_apply (a : FVec Ideal S8x4096x256 .bf16) (b : Fin 8) (B : Fin 34) (i : Fin 128) (g : Fin 4) (d : Fin 64) :
    blocks a (ix5 b B i g d) = posAt a b (128 * B.val + i.val) g d := by
  pointwise [blocks, padded]
  unfold posAt
  by_cases h : 128 ≤ B.val * 128 + i.val ∧ B.val * 128 + i.val - 128 < 4096
  · rw [dif_pos h, dif_pos (by omega)]
    congr 2 <;> (apply Fin.ext; simp only []; omega)
  · rw [dif_neg h, dif_neg (by omega)]
    exact sitofp_zero

theorem near_apply (a : FVec Ideal S8x4096x256 .bf16) (b : Fin 8) (B : Fin 32) (n : Fin 384) (g : Fin 4) (d : Fin 64) : near a (ix5 b B n g d) = posAt a b (128 * B.val + n.val) g d := by
  pointwise [near]
  by_cases h1 : n.val < 128
  · rw [dif_pos h1, blocks_apply]
  · rw [dif_neg h1]
    by_cases h2 : n.val - 128 < 128
    · rw [dif_pos h2, blocks_apply]
      congr 1; simp only []; omega
    · rw [dif_neg h2, blocks_apply]
      congr 1; simp only []; omega

theorem queries_apply (q : FVec Ideal S8x4096x1024 .bf16) (b : Fin 8) (B : Fin 32) (r : Fin 128) (g h : Fin 4) (d : Fin 64) :
    queries q (ix6 b B r g h d) = q (ix3 b ⟨128 * B.val + r.val, by omega⟩ ⟨64 * (4 * g.val + h.val) + d.val, by omega⟩) := by
  pointwise [queries]
  congr 2 <;> (apply Fin.ext; simp only []; omega)

theorem eighth : Ideal.ofBits .f32 0x3E000000#32 = ((1 / 8 : ℝ) : EReal) := by
  simp [Ideal.ofBits, Ideal.ieee]
  rw [← EReal.coe_mul]
  norm_num

theorem masked_apply (k : FVec Ideal S8x32x384x4x64 .f32) (w : FVec Ideal S8x32x128x4x4x64 .f32) (ok : IVec S32x128x384 1) (b : Fin 8) (B : Fin 32) (g h : Fin 4) (r : Fin 128) (n : Fin 384) :
    masked k w ok (ix6 b B g h r n) = if ok (ix3 B r n) = 1#1 then (∑ x, (k (ix5 b B n g x) : EReal) * w (ix6 b B r g h x)) * ((1 / 8 : ℝ) : EReal) else (⊥ : EReal) := by
  pointwise [masked]
  rw [eighth, show (id (constant S_ .f32 0xFF800000#32) : FVec Ideal S_ .f32) ix0 = ((⊥ : EReal) : Ideal .f32) by
    show Ideal.ofBits .f32 0xFF800000#32 = _; simp [Ideal.ofBits, Ideal.ieee]]
  rfl

theorem sinkRows_apply (σ : FVec Ideal S16 .f32) (b : Fin 8) (B : Fin 32) (g h : Fin 4) (r : Fin 128) : sinkRows σ (ix5 b B g h r) = σ (ix1 ⟨4 * g.val + h.val, by omega⟩) := by
  pointwise [sinkRows]
  congr 2; apply Fin.ext; simp only []; omega

end Cert.AttRef

end
-- ==== Proof.AttBand.lean ====
/-
  THE BAND of the reference's attention, in numbers: a query sees the keys within 128 of it that lie in the sequence.
-/
module

public import proofs.«01_k».proof.Proof.AttRef
@[expose] public section

set_option maxRecDepth 16384

noncomputable section

namespace Cert.AttRef
open Idealize.ShloMosaic Idealize.ShloMosaic.TcCoe Idealize.SL.Sem Cert.RefIdeal Cert.RefIdeal.Gen

theorem toInt_small (n : Nat) (h : n < 2 ^ 31) : (BitVec.ofNat 32 n).toInt = n := by
  rw [BitVec.toInt_ofNat']
  exact Int.bmod_eq_of_le (by omega) (by omega)

theorem toInt_abs (x : BitVec 32) (h : -2 ^ 31 < x.toInt ∧ x.toInt < 2 ^ 31) : (IntOp.absi x).toInt = |x.toInt| := by
  unfold IntOp.absi
  rw [BitVec.msb_eq_toInt]
  by_cases c : x.toInt < 0
  · simp only [c, decide_true, if_true]
    rw [BitVec.toInt_neg, abs_of_neg c]
    exact Int.bmod_eq_of_le (by omega) (by omega)
  · simp only [c, decide_false]
    rw [abs_of_nonneg (by omega)]
    simp

theorem kpos_apply (B : Fin 32) (n : Fin 384) : kpos (ix2 B n) = IntOp.addi (IntOp.subi (IntOp.muli (BitVec.ofNat 32 B.val) 128#32) 128#32) (BitVec.ofNat 32 n.val) := by
  pointwise [kpos, starts]

theorem qpos_apply (B : Fin 32) (r : Fin 128) : qpos (ix2 B r) = IntOp.addi (IntOp.muli (BitVec.ofNat 32 B.val) 128#32) (BitVec.ofNat 32 r.val) := by
  pointwise [qpos, starts]

theorem valid_apply (B : Fin 32) (r : Fin 128) (n : Fin 384) :
    valid (ix3 B r n) = 1#1 ↔ (r.val ≤ n.val ∧ n.val ≤ r.val + 256) ∧ 128 ≤ 128 * B.val + n.val ∧ 128 * B.val + n.val < 4224 := by
  have e : valid (ix3 B r n) = IntOp.andi (IntOp.andi (IntOp.cmpi CmpIPredicate.sle (IntOp.absi (IntOp.subi (kpos (ix2 B n)) (qpos (ix2 B r)))) 128#32)
        (IntOp.cmpi CmpIPredicate.sge (kpos (ix2 B n)) 0#32)) (IntOp.cmpi CmpIPredicate.slt (kpos (ix2 B n)) 4096#32) := by
    pointwise [valid]
  have hB := B.2; have hr := r.2; have hn := n.2
  have hs : (IntOp.muli (BitVec.ofNat 32 B.val) 128#32).toInt = 128 * (B.val : Int) := by
    rw [IntOp.muli, BitVec.toInt_mul, toInt_small _ (by omega), show (128#32 : BitVec 32).toInt = 128 by decide, Int.mul_comm]
    exact Int.bmod_eq_of_le (by omega) (by omega)
  have hk : (kpos (ix2 B n)).toInt = 128 * (B.val : Int) - 128 + n.val := by
    rw [kpos_apply, IntOp.addi, IntOp.subi, BitVec.toInt_add, BitVec.toInt_sub, hs, toInt_small n.val (by omega), show (128#32 : BitVec 32).toInt = 128 by decide,
      Int.bmod_eq_of_le (n := 128 * (B.val : Int) - 128) (by omega) (by omega)]
    exact Int.bmod_eq_of_le (by omega) (by omega)
  have hq : (qpos (ix2 B r)).toInt = 128 * (B.val : Int) + r.val := by
    rw [qpos_apply, IntOp.addi, BitVec.toInt_add, hs, toInt_small _ (by omega)]
    exact Int.bmod_eq_of_le (by omega) (by omega)
  have hd : (IntOp.subi (kpos (ix2 B n)) (qpos (ix2 B r))).toInt = (n.val : Int) - 128 - r.val := by
    rw [IntOp.subi, BitVec.toInt_sub, hk, hq, show 128 * (B.val : Int) - 128 + n.val - (128 * B.val + r.val) = (n.val : Int) - 128 - r.val by omega]
    exact Int.bmod_eq_of_le (by omega) (by omega)
  rw [e, IntOp.andi_eq_one, IntOp.andi_eq_one, IntOp.cmpi_sle, IntOp.cmpi_sge, IntOp.cmpi_slt, hk, toInt_abs _ (by omega), hd,
    show (128#32 : BitVec 32).toInt = 128 by decide, show (0#32 : BitVec 32).toInt = 0 by decide, show (4096#32 : BitVec 32).toInt = 4096 by decide, abs_le]
  omega

end Cert.AttRef

end
-- ==== Proof.AttRows.lean ====
/-
  ROWS OF THE REFERENCE'S ATTENTION: the maximum and the sum along the last of six axes, and the powers, their sums and the attended
  values at an index.
-/
module

public import proofs.«01_k».proof.Proof.AttRef
@[expose] public section

set_option maxRecDepth 16384

noncomputable section

namespace Cert.AttRef
open Idealize.ShloMosaic Idealize.ShloMosaic.TcCoe Idealize.SL.Sem Cert.RefIdeal Cert.RefIdeal.Gen

section
variable {n0 n1 n2 n3 n4 n5 : Nat}

/-- Which elements reduce into a given one when the last of six axes goes. -/
theorem fiber_last (h : (⟨6, ![n0, n1, n2, n3, n4, n5]⟩ : Shape).ReducesTo [5] ⟨5, ![n0, n1, n2, n3, n4]⟩) (b : Fin n0) (B : Fin n1) (g : Fin n2) (e : Fin n3) (r : Fin n4)
    (i : (⟨6, ![n0, n1, n2, n3, n4, n5]⟩ : Shape).Idx) : h.drop i = ix5 b B g e r ↔ ∃ k : Fin n5, ix6 b B g e r k = i := by
  constructor
  · intro q
    refine ⟨i 5, ?_⟩
    funext a
    match a with
    | ⟨0, _⟩ => exact (congrFun q 0).symm
    | ⟨1, _⟩ => exact (congrFun q 1).symm
    | ⟨2, _⟩ => exact (congrFun q 2).symm
    | ⟨3, _⟩ => exact (congrFun q 3).symm
    | ⟨4, _⟩ => exact (congrFun q 4).symm
    | ⟨5, _⟩ => rfl
  · rintro ⟨k, rfl⟩
    funext a
    match a with
    | ⟨0, _⟩ => rfl
    | ⟨1, _⟩ => rfl
    | ⟨2, _⟩ => rfl
    | ⟨3, _⟩ => rfl
    | ⟨4, _⟩ => rfl

/-- The host's maximum along the last of six axes. -/
theorem host_max_last (x : FVec Ideal ⟨6, ![n0, n1, n2, n3, n4, n5]⟩ .f32) (init : (⟨0, ![]⟩ : Shape).Idx → Ideal .f32)
    (h : (⟨6, ![n0, n1, n2, n3, n4, n5]⟩ : Shape).ReducesTo [5] ⟨5, ![n0, n1, n2, n3, n4]⟩) (hu : 0 < (⟨0, ![]⟩ : Shape).numel) (hi : init (Shape.Idx.first hu) = (⊥ : EReal))
    (b : Fin n0) (B : Fin n1) (g : Fin n2) (e : Fin n3) (r : Fin n4) :
    Host.reduce FloatOps.maximumf x init h hu (ix5 b B g e r) = Finset.univ.sup fun k => (x (ix6 b B g e r k) : EReal) := by
  rw [Host.reduce_eq_fold, Finset.fold_filter_eq_fold_of_fiber _ _ (fun k : Fin n5 => ix6 b B g e r k) (fun _ _ q => congrFun q 5) (fiber_last h b B g e r), hi]
  rfl

/-- The host's sum along the last of six axes. -/
theorem host_sum_last (x : FVec Ideal ⟨6, ![n0, n1, n2, n3, n4, n5]⟩ .f32) (init : (⟨0, ![]⟩ : Shape).Idx → Ideal .f32)
    (h : (⟨6, ![n0, n1, n2, n3, n4, n5]⟩ : Shape).ReducesTo [5] ⟨5, ![n0, n1, n2, n3, n4]⟩) (hu : 0 < (⟨0, ![]⟩ : Shape).numel) (hi : init (Shape.Idx.first hu) = (0 : EReal))
    (b : Fin n0) (B : Fin n1) (g : Fin n2) (e : Fin n3) (r : Fin n4) :
    Host.reduceAdd x init h hu (ix5 b B g e r) = ∑ k, (x (ix6 b B g e r k) : EReal) := by
  show Ideal.hostReduceAdd h x (init (Shape.Idx.first hu)) (ix5 b B g e r) = _
  unfold Ideal.hostReduceAdd
  rw [Finset.sum_filter_eq_sum_of_fiber _ (fun k : Fin n5 => ix6 b B g e r k) (fun _ _ q => congrFun q 5) (fiber_last h b B g e r), hi, zero_add]

end

section
variable (t : FVec Ideal S8x32x4x4x128x384 .f32) (s : FVec Ideal S8x32x4x4x128 .f32) (b : Fin 8) (B : Fin 32) (g h : Fin 4) (r : Fin 128)

/-- A row of scores. -/
def rowT (n : Fin 384) : EReal := t (ix6 b B g h r n)

theorem peaks_apply : peaks t s (ix5 b B g h r) = AttMath.top (rowT t b B g h r) (s (ix5 b B g h r)) :=
  (ValueIdx.maximumf_apply _ _ _).trans (congrArg (fun z : EReal => max z (s (ix5 b B g h r)))
    (host_max_last t _ reducesTo_S8x32x4x4x128x384_S8x32x4x4x128_d5 h_S_ (by show Ideal.ofBits .f32 0xFF800000#32 = _; simp [Ideal.ofBits, Ideal.ieee]) b B g h r))

theorem powers_apply (n : Fin 384) : powers t s (ix6 b B g h r n) = Ideal.exp (rowT t b B g h r n - AttMath.top (rowT t b B g h r) (s (ix5 b B g h r))) := by
  rw [← peaks_apply]
  pointwise [powers, wide]
  rfl

theorem denoms_apply : denoms t s (ix5 b B g h r) = (∑ n, Ideal.exp (rowT t b B g h r n - AttMath.top (rowT t b B g h r) (s (ix5 b B g h r))))
      + Ideal.exp ((s (ix5 b B g h r) : EReal) - AttMath.top (rowT t b B g h r) (s (ix5 b B g h r))) := by
  have e := host_sum_last (powers t s) (constant (⟨0, ![]⟩ : Shape) .f32 0x00000000#32) reducesTo_S8x32x4x4x128x384_S8x32x4x4x128_d5 h_S_
    (by show Ideal.ofBits .f32 0x00000000#32 = _; simp [Ideal.ofBits, Ideal.ieee]) b B g h r
  simp only [powers_apply] at e
  refine (ValueIdx.addf_apply _ _ _).trans ?_
  refine congrArg₂ (fun x y : EReal => x + y) e ?_
  rw [← peaks_apply]
  pointwise []

end

theorem attend_apply (t : FVec Ideal S8x32x4x4x128x384 .f32) (s : FVec Ideal S8x32x4x4x128 .f32) (v : FVec Ideal S8x32x384x4x64 .f32) (b : Fin 8) (i : Fin 4096) (C : Fin 1024) :
    attend t s v (ix3 b i C) = ∑ n : Fin 384, (v (ix5 b ⟨i.val / 128, by omega⟩ n ⟨C.val / 256, by omega⟩ ⟨C.val % 64, by omega⟩) : EReal)
      * Ideal.div (powers t s (ix6 b ⟨i.val / 128, by omega⟩ ⟨C.val / 256, by omega⟩ ⟨C.val / 64 % 4, by omega⟩ ⟨i.val % 128, by omega⟩ n))
          (denoms t s (ix5 b ⟨i.val / 128, by omega⟩ ⟨C.val / 256, by omega⟩ ⟨C.val / 64 % 4, by omega⟩ ⟨i.val % 128, by omega⟩)) := by
  pointwise [attend, wide]

end Cert.AttRef

end
-- ==== Proof.AttSum.lean ====
/-
  THE REFERENCE'S ATTENTION as sums: each query's scores in its band, their powers over the row's sum with the sink's, and the
  attended values.
-/
module

public import proofs.«01_k».proof.Proof.AttKeys
public import proofs.«01_k».proof.Proof.AttBand
public import proofs.«01_k».proof.Proof.AttRows
@[expose] public section

set_option maxRecDepth 16384

noncomputable section

namespace Cert.AttRef
open Idealize.ShloMosaic Idealize.ShloMosaic.TcCoe Idealize.SL.Sem Cert.RefIdeal Cert.RefIdeal.Gen

/-- Row `r` of block `B` may see key `n` of the three blocks around. -/
def sees (B : Fin 32) (r : Fin 128) (n : Fin 384) : Prop := (r.val ≤ n.val ∧ n.val ≤ r.val + 256) ∧ 128 ≤ 128 * B.val + n.val ∧ 128 * B.val + n.val < 4224

instance (B : Fin 32) (r : Fin 128) (n : Fin 384) : Decidable (sees B r n) := by unfold sees; infer_instance

variable (q : FVec Ideal S8x4096x1024 .bf16) (k v : FVec Ideal S8x4096x256 .bf16) (σ : FVec Ideal S16 .f32)

/-- A query's scores, minus infinity outside its band. -/
def seen (b : Fin 8) (B : Fin 32) (g h : Fin 4) (r : Fin 128) (n : Fin 384) : EReal :=
  if sees B r n then (∑ d : Fin 64, posAt k b (128 * B.val + n.val) g d * (q (ix3 b ⟨128 * B.val + r.val, by omega⟩ ⟨64 * (4 * g.val + h.val) + d.val, by omega⟩) : EReal)) * ((1 / 8 : ℝ) : EReal) else ⊥

/-- The sum of the powers of a row of scores and of its sink. -/
def denom (T : Fin 384 → EReal) (s : EReal) : EReal := ∑ n, Ideal.exp (T n - AttMath.top T s) + Ideal.exp (s - AttMath.top T s)

/-- One attended value. -/
def heed (T : Fin 384 → EReal) (s : EReal) (V : Fin 384 → EReal) : EReal := ∑ n, V n * Ideal.div (Ideal.exp (T n - AttMath.top T s)) (denom T s)

/-- The result at batch `b`, row `i` and column `C`. -/
def answer (b : Fin 8) (i : Fin 4096) (C : Fin 1024) : EReal :=
  heed (seen q k b ⟨i.val / 128, by omega⟩ ⟨C.val / 256, by omega⟩ ⟨C.val / 64 % 4, by omega⟩ ⟨i.val % 128, by omega⟩)
    (σ (ix1 ⟨4 * (C.val / 256) + C.val / 64 % 4, by omega⟩)) (fun n => posAt v b (128 * (i.val / 128) + n.val) ⟨C.val / 256, by omega⟩ ⟨C.val % 64, by omega⟩)

theorem row_seen (b : Fin 8) (B : Fin 32) (g h : Fin 4) (r : Fin 128) : rowT (masked (near k) (queries q) valid) b B g h r = seen q k b B g h r := by
  funext n
  unfold rowT seen
  rw [masked_apply]
  by_cases c : sees B r n
  · rw [if_pos ((valid_apply B r n).2 c), if_pos c]
    simp only [near_apply, queries_apply]
  · rw [if_neg (fun e => c ((valid_apply B r n).1 e)), if_neg c]

theorem answer_eq (b : Fin 8) (i : Fin 4096) (C : Fin 1024) :
    attend (masked (near k) (queries q) valid) (sinkRows σ) (near v) (ix3 b i C) = answer q k v σ b i C := by
  rw [attend_apply]
  unfold answer heed denom
  simp only [powers_apply, denoms_apply, row_seen, near_apply, sinkRows_apply]

end Cert.AttRef

end
-- ==== Proof.AttSame.lean ====
/-
  THE TWO ATTENTIONS AGREE where queries, keys and sinks are real numbers: the powers of two of scores scaled by 1 / (8 log 2), with
  one multiplication by the reciprocal of their sum, are the powers of e over theirs.
-/
module

public import proofs.«01_k».proof.Proof.AttTile
public import proofs.«01_k».proof.Proof.AttSum
@[expose] public section

set_option maxRecDepth 16384

noncomputable section

namespace Cert.AttSame
open Idealize.ShloMosaic Cert.AttRef Cert.AttBlock Cert.AttPower Cert.AttRead Cert.AttMath Cert.AttStage

theorem sk_eq (s : Ideal .f32) : sk s = (s : EReal) * (unit2 : EReal) :=
  congrArg (fun z : EReal => (s : EReal) * z) (IdealRules.named_const.ideal_named_scalar (φ := .f32) Cert.KernelIdeal.κ "log2e" 0x3FB8AA3B#32 (unit2 : EReal) rfl)

section
variable (k : FVec Ideal Cert.RefIdeal.S8x4096x256 .bf16) (b : Fin 8) (T : Fin 8)
  (km : Vec Ideal Cert.KernelIdeal.S1x512x256 .bf16) (kp kn : Vec Ideal Cert.KernelIdeal.S1x128x256 .bf16)

/-- Three blocks hold a tile's keys and the 128 rows before and after it, kept in the sequence. -/
structure Holds : Prop where
  here : ∀ (R : Fin 512) (C : Fin 256), (km (ix3 0 R C) : EReal) = k (ix3 b ⟨512 * T.val + R.val, by omega⟩ C)
  before : ∀ (R : Fin 128) (C : Fin 256), (kp (ix3 0 R C) : EReal) = k (ix3 b ⟨128 * (4 * T.val - 1) + R.val, by omega⟩ C)
  after : ∀ (R : Fin 128) (C : Fin 256), (kn (ix3 0 R C) : EReal) = k (ix3 b ⟨128 * (min (4 * T.val + 4) 31) + R.val, by omega⟩ C)

variable {k b T km kp kn}

theorem around_eq (H : Holds k b T km kp kn) (n : Fin 768) (h1 : 128 ≤ 512 * T.val + n.val) (h2 : 512 * T.val + n.val < 4224) (g : Fin 4) (d : Fin 64) (p : ℕ) (hp : p = 512 * T.val + n.val)
    (e : Fin 256) (he : e.val = 64 * g.val + d.val) : around km kp kn n e = posAt k b p g d := by
  subst hp
  have hd := d.2
  have hg := g.2
  rw [show e = ⟨64 * g.val + d.val, by omega⟩ from Fin.ext he]
  have hT := T.2
  unfold posAt
  rw [dif_pos ⟨h1, h2⟩]
  unfold around
  by_cases c1 : n.val < 128
  · rw [dif_pos c1]
    refine (H.before _ _).trans (congrArg (fun z => k (ix3 b z _)) (Fin.ext ?_))
    show 128 * (4 * T.val - 1) + n.val = 512 * T.val + n.val - 128
    omega
  · rw [dif_neg c1]
    by_cases c2 : n.val < 640
    · rw [dif_pos c2]
      refine (H.here _ _).trans (congrArg (fun z => k (ix3 b z _)) (Fin.ext ?_))
      show 512 * T.val + (n.val - 128) = 512 * T.val + n.val - 128
      omega
    · rw [dif_neg c2]
      refine (H.after _ _).trans (congrArg (fun z => k (ix3 b z _)) (Fin.ext ?_))
      show 128 * (min (4 * T.val + 4) 31) + (n.val - 640) = 512 * T.val + n.val - 128
      omega
end

/-- The kernel's band is the reference's. -/
theorem band_sees (T : Fin 8) (j : Fin 4) (r : Fin 128) (n : Fin 384) : band (early T j) (late T j) r.val n.val ↔ sees ⟨4 * T.val + j.val, by omega⟩ r n := by
  have hr := r.2; have hn := n.2; have hT := T.2; have hj := j.2
  unfold band sees early late
  rw [Nat.mod_eq_of_lt hr]
  by_cases c : T = 0 ∧ j = 0
  · rw [if_pos c, if_neg (by rintro ⟨e, _⟩; rw [e] at c; exact absurd c.1 (by decide))]
    obtain ⟨rfl, rfl⟩ := c
    simp only [Fin.val_zero]
    omega
  · rw [if_neg c]
    have c' : ¬(T.val = 0 ∧ j.val = 0) := fun h => c ⟨Fin.ext h.1, Fin.ext h.2⟩
    by_cases c2 : T = 7 ∧ j = 3
    · rw [if_pos c2]
      have e1 : T.val = 7 := congrArg Fin.val c2.1
      have e2 : j.val = 3 := congrArg Fin.val c2.2
      simp only [e1, e2]
      omega
    · rw [if_neg c2]
      have c3 : ¬(T.val = 7 ∧ j.val = 3) := fun h => c2 ⟨Fin.ext h.1, Fin.ext h.2⟩
      simp only []
      omega

section
variable (q : FVec Ideal Cert.RefIdeal.S8x4096x1024 .bf16) (k v : FVec Ideal Cert.RefIdeal.S8x4096x256 .bf16) (σ : FVec Ideal Cert.RefIdeal.S16 .f32) (b : Fin 8) (T : Fin 8)
  (x8 : Vec Ideal Cert.KernelIdeal.S1x512x1024 .bf16) (km : Vec Ideal Cert.KernelIdeal.S1x512x256 .bf16) (kp kn : Vec Ideal Cert.KernelIdeal.S1x128x256 .bf16)
  (vm : Vec Ideal Cert.KernelIdeal.S1x512x256 .bf16) (vp vn : Vec Ideal Cert.KernelIdeal.S1x128x256 .bf16) (snk : Fin 16 → Elt Ideal .f32)
  (hx : ∀ (R : Fin 512) (C : Fin 1024), (x8 (ix3 0 R C) : EReal) = q (ix3 b ⟨512 * T.val + R.val, by omega⟩ C) * ((1 / 8 * unit2 : ℝ) : EReal))
  (Hk : Holds k b T km kp kn) (Hv : Holds v b T vm vp vn) (hs : ∀ h, (snk h : EReal) = σ (ix1 h))
  (rq : ∀ i, ∃ r : ℝ, (q i : EReal) = r) (rk : ∀ i, ∃ r : ℝ, (k i : EReal) = r) (rs : ∀ i, ∃ r : ℝ, (σ i : EReal) = r)

theorem posAt_real (rk : ∀ i, ∃ r : ℝ, (k i : EReal) = r) (p : ℕ) (g : Fin 4) (d : Fin 64) : ∃ r : ℝ, posAt k b p g d = r := by
  unfold posAt
  split_ifs
  · exact rk _
  · exact ⟨0, rfl⟩

include hx Hk in
theorem row_scaled (j : Fin 4) (H : Fin 16) (g h : Fin 4) (hH : H.val = 4 * g.val + h.val) (r : Fin 128) (n : Fin 384) :
    row x8 km kp kn (early T j) (late T j) j H r n = seen q k b ⟨4 * T.val + j.val, by omega⟩ g h r n * (unit2 : EReal) := by
  have hg : H.val / 4 = g.val := by omega
  unfold row seen
  by_cases c : sees ⟨4 * T.val + j.val, by omega⟩ r n
  · rw [if_pos ((band_sees T j r n).2 c), if_pos c]
    unfold score
    have e : ∀ d : Fin 64, (x8 (ix3 0 ⟨128 * j.val + r.val, by omega⟩ ⟨64 * H.val + d.val, by omega⟩) : EReal) * around km kp kn ⟨128 * j.val + n.val, by omega⟩ ⟨64 * (H.val / 4) + d.val, by omega⟩
        = (q (ix3 b ⟨128 * (4 * T.val + j.val) + r.val, by omega⟩ ⟨64 * (4 * g.val + h.val) + d.val, by omega⟩) : EReal) * ((1 / 8 * unit2 : ℝ) : EReal)
          * posAt k b (128 * (4 * T.val + j.val) + n.val) g d := fun d => by
      rw [around_eq Hk ⟨128 * j.val + n.val, by omega⟩ (by have := c.2.1; simp only [] at this ⊢; omega) (by have := c.2.2; simp only [] at this ⊢; omega) g d
        (128 * (4 * T.val + j.val) + n.val) (by simp only []; omega) _ (by simp only [hg]), hx]
      congr 4 <;> (apply Fin.ext; simp only []; omega)
    rw [Finset.sum_congr rfl fun d _ => e d, score_scale]
    congr 2
    exact Finset.sum_congr rfl fun d _ => mul_comm _ _
  · rw [if_neg (fun e => c ((band_sees T j r n).1 e)), if_neg c, EReal.bot_mul_coe_of_pos unit2_pos]

include rq rk in
theorem seen_ne_top (B : Fin 32) (g h : Fin 4) (r : Fin 128) (n : Fin 384) : seen q k b B g h r n ≠ ⊤ := by
  unfold seen
  split_ifs
  · exact score_real _ _ (fun d => posAt_real k b rk _ _ _) (fun d => rq _) _
  · exact bot_ne_top

include hx Hk Hv hs rq rk rs in
theorem blockOut_eq (R : Fin 512) (C : Fin 1024) :
    blockOut x8 km kp kn vm vp vn snk T R C = answer q k v σ b ⟨512 * T.val + R.val, by omega⟩ C := by
  have hR := R.2; have hC := C.2; have hT := T.2
  obtain ⟨s, hσ⟩ := rs (ix1 ⟨4 * (C.val / 256) + C.val / 64 % 4, by omega⟩)
  have hH : C.val / 64 = 4 * (C.val / 256) + C.val / 64 % 4 := by omega
  have e1 : (512 * T.val + R.val) / 128 = 4 * T.val + R.val / 128 := by omega
  have e2 : (512 * T.val + R.val) % 128 = R.val % 128 := by omega
  have hk : sk (snk ⟨C.val / 64, by omega⟩) = (s : EReal) * (unit2 : EReal) := by
    rw [sk_eq, hs, ← hσ]
    simp only [← hH]
  unfold blockOut attn
  rw [hk]
  refine (row_eq (seen q k b ⟨4 * T.val + R.val / 128, by omega⟩ ⟨C.val / 256, by omega⟩ ⟨C.val / 64 % 4, by omega⟩ ⟨R.val % 128, by omega⟩) s
    (fun n => seen_ne_top q k b rq rk _ _ _ _ n) (fun n => around vm vp vn ⟨128 * (R.val / 128) + n.val, by omega⟩ ⟨64 * (C.val / 64 / 4) + C.val % 64, by omega⟩)
    (fun n => posAt v b (128 * (4 * T.val + R.val / 128) + n.val) ⟨C.val / 256, by omega⟩ ⟨C.val % 64, by omega⟩) (fun n hn => ?_) _
    (fun n => row_scaled q k b T x8 km kp kn hx Hk ⟨R.val / 128, by omega⟩ ⟨C.val / 64, by omega⟩ ⟨C.val / 256, by omega⟩ ⟨C.val / 64 % 4, by omega⟩ hH ⟨R.val % 128, by omega⟩ n)).trans ?_
  · have c : sees ⟨4 * T.val + R.val / 128, by omega⟩ ⟨R.val % 128, by omega⟩ n := by
      by_contra c
      exact hn (by unfold seen; rw [if_neg c])
    exact around_eq Hv _ (by have := c.2.1; simp only [] at this ⊢; omega) (by have := c.2.2; simp only [] at this ⊢; omega) _ _ _ (by simp only []; omega) _ (by simp only []; omega)
  · unfold answer heed denom
    simp only [e1, e2, hσ]
    exact Finset.sum_congr rfl fun n _ => mul_comm _ _
end

end Cert.AttSame

end
-- ==== Proof.AttFinal.lean ====
/-
  THE CALL'S SECOND RESULT: the array the kernel leaves is the reference's window attention, where the precondition holds.
-/
module

public import proofs.«01_k».proof.Proof.AttSame
public import proofs.«01_k».proof.Defs
public import Idealize.ShloMosaic.Lib.ReduceAll
@[expose] public section

set_option maxRecDepth 16384

noncomputable section

namespace Cert.AttFinal
open Idealize.ShloMosaic Idealize.ShloMosaic.TcCoe Idealize.SL.Sem Cert.KernelIdeal Cert.KernelIdeal.Gen
open Cert.AttSame Cert.AttTile

/-- The side conditions of the precondition. -/
theorem preFacts : Cert.Pre_finite_scores.Facts where
  bitsLt_bf16_f32 := by decide
  bcast_S_S8x4096x1024 := by decide
  reducesTo_S8x4096x1024_S_d0_1_2 := by decide
  h_S_ := by decide
  bcast_S_S8x4096x256 := by decide
  reducesTo_S8x4096x256_S_d0_1_2 := by decide
  bcast_S_S16 := by decide
  reducesTo_S16_S_d0 := by decide

variable (m : (ℓ : Loc nD τ sig) → Buf (Elt Ideal) ℓ)

/-- Queries, keys and sinks are real numbers. -/
structure Finite (c : Dev nD) : Prop where
  q : ∀ i : S8x4096x1024.Idx, ∃ r : ℝ, m ((c : Thread nD τ).loc main_arg7) i = (r : EReal)
  k : ∀ i : S8x4096x256.Idx, ∃ r : ℝ, m ((c : Thread nD τ).loc main_arg8) i = (r : EReal)
  s : ∀ i : S16.Idx, ∃ r : ℝ, m ((c : Thread nD τ).loc main_arg10) i = (r : EReal)

/-- An absolute value below the largest bit pattern belongs to a real number. -/
theorem real_of_lt (x : EReal) (h : Ideal.cmp .olt (max x (-x)) (Ideal.ofBits .f32 0x7F800000#32) = 1#1) : ∃ r : ℝ, x = r := by
  refine AttMath.real_of_abs x ?_
  rw [show Ideal.ofBits .f32 0x7F800000#32 = (⊤ : EReal) by simp [Ideal.ofBits, Ideal.ieee]] at h
  by_contra c
  simp [Ideal.cmp, c] at h

instance : Subsingleton (⟨0, ![]⟩ : Shape).Idx := ⟨fun a b => funext fun i => i.elim0⟩

theorem finite_of_pre (h : Cert.Pre_KernelIdeal_finite_scores (hPre_finite_scores := preFacts) m) (c : Dev nD) : Finite m c := by
  have e := congrFun (h c) ix0
  dsimp only [Cert.Pre_finite_scores.fn] at e
  obtain ⟨e1, e3⟩ := IntOp.andi_eq_one.1 e
  obtain ⟨e1, e2⟩ := IntOp.andi_eq_one.1 e1
  exact ⟨fun i => real_of_lt _ (Host.reduce_andi_all _ _ _ _ _ e1 i), fun i => real_of_lt _ (Host.reduce_andi_all _ _ _ _ _ e2 i),
    fun i => real_of_lt _ (Host.reduce_andi_all _ _ _ _ _ e3 i)⟩

/-- The kernel's second result array. -/
def resA (c : Dev nD) : Buf (Elt Ideal) ((c : Thread nD τ).loc main_v11_1) := fun (i : S8x4096x1024.Idx) =>
  Cert.AttRef.answer (m ((c : Thread nD τ).loc main_arg7)) (m ((c : Thread nD τ).loc main_arg8)) (m ((c : Thread nD τ).loc main_arg9))
    (m ((c : Thread nD τ).loc main_arg10)) (i 0) (i 1) (i 2)

theorem tile_answer (c : Dev nD) (hf : Finite m c) (t : Fin cfg0.N) (R : Fin 512) (C : Fin 1024) :
    (outsAt0 m c t).2 (ix3 0 R C) = resA m c (ix3 ⟨t.val / 8, by have := lt_N t; omega⟩ ⟨512 * (t.val % 8) + R.val, by omega⟩ C) := by
  refine (after_att m c t R C).trans ?_
  exact blockOut_eq (m ((c : Thread nD τ).loc main_arg7)) (m ((c : Thread nD τ).loc main_arg8)) (m ((c : Thread nD τ).loc main_arg9)) (m ((c : Thread nD τ).loc main_arg10))
    ⟨t.val / 8, by have := lt_N t; omega⟩ (tile t) _ _ _ _ _ _ _ _ (q_here m c t) ⟨k_here m c t, k_before m c t, k_after m c t⟩ ⟨v_here m c t, v_before m c t, v_after m c t⟩
    (sink_blk m c t) hf.q hf.k hf.s R C

/-- After the run the second result array is `resA`. -/
theorem final (c : Dev nD) (hfin : Finite m c) : (dats m 0 c).arrAt 16 cfg0.N = resA m c := by
  refine (dats m 0 c).arrAt_eq_of_covers 16 _ (by decide +kernel) fun t hf y => ?_
  blk_simp
  rw [after0_16]
  idx_vars y
  obtain rfl : y0 = 0 := Subsingleton.elim _ _
  refine (tile_answer m c hfin t _ _).trans ?_
  generalize resA m c = G
  blk_point [places t]

end Cert.AttFinal

end
-- ==== Proof.FusedValue.lean ====
/-
  THE CALL THAT CLOSES THE SECOND LAYER ON ONE BATCH WHILE IT ATTENDS OVER THE OTHER: both its results are the reference's, where
  queries, keys and sinks are finite.
-/
module

public import proofs.«01_k».proof.Proof.FusedMlp
public import proofs.«01_k».proof.Proof.AttFinal
@[expose] public section

set_option maxRecDepth 16384

noncomputable section

namespace Cert.FusedValue
open Idealize.ShloMosaic Idealize.ShloMosaic.TcCoe Idealize.SL.Sem Cert.KernelIdeal Cert.KernelIdeal.Gen

variable (m' : (ℓ : Loc Cert.RefIdeal.nD Cert.RefIdeal.τ Cert.RefIdeal.sig) → Buf (Elt Ideal) ℓ)

theorem ref_mlp (c : Dev Cert.RefIdeal.nD) (r : Fin 32768) (l : Fin 1024) :
    Cert.RefIdeal.Value.res_out0 m' c (ix2 r l)
      = Cert.FusedMlp.res (fun r k => m' ((c.tc : Thread Cert.RefIdeal.nD Cert.RefIdeal.τ).loc Cert.RefIdeal.main_arg0) (ix2 r k))
          (fun r k => m' ((c.tc : Thread Cert.RefIdeal.nD Cert.RefIdeal.τ).loc Cert.RefIdeal.main_arg1) (ix2 r k))
          (fun k j => m' ((c.tc : Thread Cert.RefIdeal.nD Cert.RefIdeal.τ).loc Cert.RefIdeal.main_arg2) (ix2 k j))
          (fun k => m' ((c.tc : Thread Cert.RefIdeal.nD Cert.RefIdeal.τ).loc Cert.RefIdeal.main_arg3) (ix1 k))
          (fun k j => m' ((c.tc : Thread Cert.RefIdeal.nD Cert.RefIdeal.τ).loc Cert.RefIdeal.main_arg4) (ix2 k j))
          (fun k j => m' ((c.tc : Thread Cert.RefIdeal.nD Cert.RefIdeal.τ).loc Cert.RefIdeal.main_arg5) (ix2 k j))
          (fun k => m' ((c.tc : Thread Cert.RefIdeal.nD Cert.RefIdeal.τ).loc Cert.RefIdeal.main_arg6) (ix1 k)) r l := by
  pointwise [Cert.RefIdeal.Value.res_out0, Cert.RefIdeal.Value.res_main_v33]
  rfl

theorem ref_att (c : Dev Cert.RefIdeal.nD) (b : Fin 8) (i : Fin 4096) (C : Fin 1024) :
    Cert.RefIdeal.Value.res_out1 m' c (ix3 b i C)
      = Cert.AttRef.answer (m' ((c.tc : Thread Cert.RefIdeal.nD Cert.RefIdeal.τ).loc Cert.RefIdeal.main_arg7))
          (m' ((c.tc : Thread Cert.RefIdeal.nD Cert.RefIdeal.τ).loc Cert.RefIdeal.main_arg8))
          (m' ((c.tc : Thread Cert.RefIdeal.nD Cert.RefIdeal.τ).loc Cert.RefIdeal.main_arg9))
          (m' ((c.tc : Thread Cert.RefIdeal.nD Cert.RefIdeal.τ).loc Cert.RefIdeal.main_arg10)) b i C :=
  (congrFun (Cert.AttRef.res_eq m' c) (ix3 b i C)).trans (Cert.AttRef.answer_eq _ _ _ _ b i C)

theorem frame_ref : Cert.quiescent_RefIdeal := fun m' ρ _ =>
  (θ_run Cert.RefIdeal.defs _ _).mono (fun r h => ⟨fun c => (h c).2.2, sem_eq_zero_of_no_sems (by decide) r.2⟩) (Cert.RefIdeal.Value.run (F := Ideal) m' ρ)

theorem algebraic : Cert.algebraic_KernelIdeal_RefIdeal_pre_finite_scores (hPre_finite_scores := Cert.AttFinal.preFacts) := by
  intro m ρ m' ρ' hpre hagree
  refine ⟨fun c => Cert.FusedMlp.resK m c, fun c => Cert.AttFinal.resA m c, ?_, ?_⟩
  · exact (θ_run Cert.KernelIdeal.defs _ _).mono (fun _ h c => ⟨(h c).1.trans (Cert.FusedMlp.final m c),
      (h c).2.1.trans (Cert.AttFinal.final m c (Cert.AttFinal.finite_of_pre m hpre c)), (h c).2.2⟩) (Cert.KernelIdeal.Value.run_blocks (F := Ideal) m ρ)
  · refine (θ_run Cert.RefIdeal.defs _ _).mono (fun _ h c => ⟨(h c).1.trans ?_, (h c).2.1.trans ?_, (h c).2.2⟩)
      (Cert.RefIdeal.Value.run (F := Ideal) m' ρ')
    · obtain ⟨h0, h1, h2, h3, h4, h5, h6, _⟩ := hagree c
      funext i
      obtain ⟨r, l, rfl⟩ : ∃ (r : Fin 32768) (l : Fin 1024), i = ix2 r l := ⟨i 0, i 1, eq_ix2 i⟩
      refine (ref_mlp m' c r l).trans ?_
      rw [h0, h1, h2, h3, h4, h5, h6]
      rfl
    · obtain ⟨_, _, _, _, _, _, _, h7, h8, h9, h10⟩ := hagree c
      funext i
      obtain ⟨b, r, l, rfl⟩ : ∃ (b : Fin 8) (r : Fin 4096) (l : Fin 1024), i = ix3 b r l := ⟨i 0, i 1, i 2, eq_ix3 i⟩
      refine (ref_att m' c b r l).trans ?_
      rw [h7, h8, h9, h10]
      rfl

end Cert.FusedValue

end
-- ==== Proof.lean ====
module

public import proofs.«01_k».proof.Defs
public import proofs.«01_k».proof.Proof.Gen.Mlp1
public import proofs.«01_k».proof.Proof.Gen.Mlp1.Frame
public import proofs.«01_k».proof.Proof.Gen.Mlp1Ideal
public import proofs.«01_k».proof.Proof.Gen.Mlp1Ideal.Value
public import proofs.«01_k».proof.Proof.Gen.Mlp1RefIdeal
public import proofs.«01_k».proof.Proof.Gen.Mlp1RefIdeal.Run
public import proofs.«01_k».proof.Proof.Gen.Mlp0
public import proofs.«01_k».proof.Proof.Gen.Mlp0.Frame
public import proofs.«01_k».proof.Proof.Gen.Mlp0Ideal
public import proofs.«01_k».proof.Proof.Gen.Mlp0Ideal.Value
public import proofs.«01_k».proof.Proof.Gen.Mlp0RefIdeal
public import proofs.«01_k».proof.Proof.Gen.Mlp0RefIdeal.Run
public import proofs.«01_k».proof.Proof.Gen.Qkv
public import proofs.«01_k».proof.Proof.Gen.Qkv.Frame
public import proofs.«01_k».proof.Proof.Gen.QkvIdeal
public import proofs.«01_k».proof.Proof.Gen.QkvIdeal.Value
public import proofs.«01_k».proof.Proof.Gen.QkvRefIdeal
public import proofs.«01_k».proof.Proof.Gen.QkvRefIdeal.Run
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.RefIdeal
public import proofs.«01_k».proof.Proof.Gen.RefIdeal.Run
public import proofs.«01_k».proof.Proof.Mlp1Value
public import proofs.«01_k».proof.Proof.Mlp0Value
public import proofs.«01_k».proof.Proof.QkvValue
public import proofs.«01_k».proof.Proof.FusedValue
public import Idealize.ShloMosaic.Adequacy
public import Idealize.ShloMosaic.Init

@[expose] public section

noncomputable section

namespace Cert.Proof

theorem claim : Cert.Claim :=
  ⟨Cert.Mlp1.Gen.facts, Cert.Mlp1Ideal.Gen.facts, Cert.Mlp1RefIdeal.Gen.facts, Cert.Mlp0.Gen.facts, Cert.Mlp0Ideal.Gen.facts,
    Cert.Mlp0RefIdeal.Gen.facts, Cert.Qkv.Gen.facts, Cert.QkvIdeal.Gen.facts, Cert.QkvRefIdeal.Gen.facts,
    Cert.Kernel.Gen.facts, Cert.KernelIdeal.Gen.facts, Cert.RefIdeal.Gen.facts, Cert.AttFinal.preFacts,
    fun m ρ _ => Cert.Mlp1.Gen.frame m ρ, fun m ρ _ => Cert.Mlp1Ideal.Gen.frame m ρ, Cert.Mlp1Value.frame_ref,
    fun m ρ _ => Cert.Mlp0.Gen.frame m ρ, fun m ρ _ => Cert.Mlp0Ideal.Gen.frame m ρ, Cert.Mlp0Value.frame_ref,
    fun m ρ _ => Cert.Qkv.Gen.frame m ρ, fun m ρ _ => Cert.QkvIdeal.Gen.frame m ρ, Cert.QkvValue.frame_ref,
    fun m ρ _ => Cert.Kernel.Gen.frame m ρ, fun m ρ _ => Cert.KernelIdeal.Gen.frame m ρ, fun m ρ _ => Cert.KernelIdeal.Gen.frame m ρ,
    Cert.FusedValue.frame_ref, fun m ρ _ => Cert.FusedValue.frame_ref m ρ trivial,
    trivial, Cert.Mlp1Value.algebraic, trivial, Cert.Mlp0Value.algebraic,
    Idealize.ShloMosaic.IdealRules.named_const.statement Cert.QkvIdeal.κ "qscale" .f32 _ _ rfl, Cert.QkvValue.algebraic,
    Idealize.ShloMosaic.IdealRules.named_const.statement Cert.KernelIdeal.κ "log2e" .f32 _ _ rfl, Cert.FusedValue.algebraic⟩

end Cert.Proof

end
